-- ==== Defs.lean ====
def Pre_Kernel [hPre_idx_in_vocab : Cert.Pre_idx_in_vocab.Facts] (m : (ℓ : Loc Cert.Kernel.nD Cert.Kernel.τ Cert.Kernel.sig) → Buf (Elt Bits) ℓ) : Prop :=
  ∀ c : Dev Cert.Kernel.nD,
    (Cert.Pre_idx_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_idx_in_vocab : Cert.Pre_idx_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_idx_in_vocab : Cert.Pre_idx_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_idx_in_vocab : Cert.Pre_idx_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_idx_in_vocab : Cert.Pre_idx_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_idx_in_vocab : Cert.Pre_idx_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_vocab : Cert.Pre_idx_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11_9) = v0 c
          ∧ r.2.mem ((c.tc : Thread Cert.ReferenceIdeal.nD Cert.ReferenceIdeal.τ).loc Cert.ReferenceIdeal.main_v11_11) = v1 c
          ∧ r.2.mem ((c.tc : Thread Cert.ReferenceIdeal.nD Cert.ReferenceIdeal.τ).loc Cert.ReferenceIdeal.main_v29) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_idx_in_vocab : Cert.Pre_idx_in_vocab.Facts),
    quiescent_Kernel (hKernel := hKernel) (hPre_idx_in_vocab := hPre_idx_in_vocab)
    ∧ quiescent_KernelIdeal (hKernelIdeal := hKernelIdeal) (hPre_idx_in_vocab := hPre_idx_in_vocab)
    ∧ quiescent_ReferenceIdeal (hReferenceIdeal := hReferenceIdeal) (hPre_idx_in_vocab := hPre_idx_in_vocab)
    ∧ preserves_Kernel_KernelIdeal
    ∧ algebraic_KernelIdeal_ReferenceIdeal (hKernelIdeal := hKernelIdeal) (hReferenceIdeal := hReferenceIdeal) (hPre_idx_in_vocab := hPre_idx_in_vocab)
-- ==== Pre_idx_in_vocab.lean ====
abbrev S1024x200 : Shape := ⟨2, ![1024, 200]⟩
abbrev S100001x128 : Shape := ⟨2, ![100001, 128]⟩
abbrev S128x1024 : Shape := ⟨2, ![128, 1024]⟩
abbrev S256x1024 : Shape := ⟨2, ![256, 1024]⟩
abbrev S1024 : Shape := ⟨1, ![1024]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : IVec S1024x200 32) (main_arg2 : FVec F S100001x128 .f32) (main_arg3 : FVec F S128x1024 .f32) (main_arg4 : FVec F S256x1024 .f32) (main_arg5 : FVec F S1024 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .sle main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  let main_c_2 : IVec S_ 32 := constantI S_ 32 0#32
  let main_v6 : IVec S1024x200 32 := broadcastInDim S1024x200 ![] bcast_S_S1024x200 main_c_2
  let main_v7 : IVec S1024x200 1 := cmpi .sge main_arg1 main_v6
  let main_c_3 : IVec S_ 32 := constantI S_ 32 100000#32
  let main_v8 : IVec S1024x200 32 := broadcastInDim S1024x200 ![] bcast_S_S1024x200 main_c_3
  let main_v9 : IVec S1024x200 1 := cmpi .sle main_arg1 main_v8
  let main_v10 : IVec S1024x200 1 := andi main_v7 main_v9
  let main_c_4 : IVec S_ 1 := constantI S_ 1 1#1
  let main_v11 : IVec S_ 1 := (fun x v => Host.reduce IntOp.andi x v reducesTo_S1024x200_S_d0_1 h_S_) main_v10 main_c_4
  let main_v12 : IVec S_ 1 := andi main_v5 main_v11
  main_v12
-- ==== Kernel.lean ====
abbrev S1024x200 : Shape := ⟨2, ![1024, 200]⟩
abbrev S100001x128 : Shape := ⟨2, ![100001, 128]⟩
abbrev S128x1024 : Shape := ⟨2, ![128, 1024]⟩
abbrev S256x1024 : Shape := ⟨2, ![256, 1024]⟩
abbrev S1024 : Shape := ⟨1, ![1024]⟩
abbrev S2048x200 : Shape := ⟨2, ![2048, 200]⟩
abbrev S200x2048 : Shape := ⟨2, ![200, 2048]⟩
abbrev S32x100x128 : Shape := ⟨3, ![32, 100, 128]⟩
abbrev S409600x128 : Shape := ⟨2, ![409600, 128]⟩
abbrev S100x128 : Shape := ⟨2, ![100, 128]⟩
abbrev S128x128 : Shape := ⟨2, ![128, 128]⟩
abbrev S_ : Shape := ⟨0, ![]⟩
abbrev S1x100x128 : Shape := ⟨3, ![1, 100, 128]⟩
abbrev S1x128 : Shape := ⟨2, ![1, 128]⟩
abbrev S128 : Shape := ⟨1, ![128]⟩
abbrev S200x2048x128 : Shape := ⟨3, ![200, 2048, 128]⟩
abbrev S200x2048x1 : Shape := ⟨3, ![200, 2048, 1]⟩
abbrev S1x1024 : Shape := ⟨2, ![1, 1024]⟩
abbrev S1024x256 : Shape := ⟨2, ![1024, 256]⟩
abbrev S1024x1 : Shape := ⟨2, ![1024, 1]⟩
abbrev S1x2048x128 : Shape := ⟨3, ![1, 2048, 128]⟩
abbrev S1x2048x1 : Shape := ⟨3, ![1, 2048, 1]⟩
abbrev S2048x256 : Shape := ⟨2, ![2048, 256]⟩
abbrev S2048x128 : Shape := ⟨2, ![2048, 128]⟩
abbrev S2048x1024 : Shape := ⟨2, ![2048, 1024]⟩
abbrev S2048x1 : Shape := ⟨2, ![2048, 1]⟩

abbrev nBuf : Table → Nat
  | .hbm => 17
  | .local .tc .vmem => 12
  | .local .scVector .vmem => 2
  | _ => 0

abbrev bufTy : (tb : Table) → Fin (nBuf tb) → BufTy
  | .hbm, ⟨0, _⟩ => ⟨S1024x200, .i32⟩
  | .hbm, ⟨1, _⟩ => ⟨S1024x200, .i32⟩
  | .hbm, ⟨2, _⟩ => ⟨S100001x128, .f32⟩
  | .hbm, ⟨3, _⟩ => ⟨S128x1024, .f32⟩
  | .hbm, ⟨4, _⟩ => ⟨S256x1024, .f32⟩
  | .hbm, ⟨5, _⟩ => ⟨S1024, .f32⟩
  | .hbm, ⟨6, _⟩ => ⟨S2048x200, .i32⟩
  | .hbm, ⟨7, _⟩ => ⟨S200x2048, .i32⟩
  | .hbm, ⟨8, _⟩ => ⟨S32x100x128, .i32⟩
  | .hbm, ⟨9, _⟩ => ⟨S409600x128, .f32⟩
  | .hbm, ⟨10, _⟩ => ⟨S200x2048x128, .f32⟩
  | .hbm, ⟨11, _⟩ => ⟨S200x2048x1, .i32⟩
  | .hbm, ⟨12, _⟩ => ⟨S1x1024, .f32⟩
  | .hbm, ⟨13, _⟩ => ⟨S1024x256, .f32⟩
  | .hbm, ⟨14, _⟩ => ⟨S1024x256, .f32⟩
  | .hbm, ⟨15, _⟩ => ⟨S1024x1, .f32⟩
  | .hbm, ⟨16, _⟩ => ⟨S1024, .f32⟩
  | .local .tc .vmem, ⟨0, _⟩ => ⟨S1x2048x128, .f32⟩
  | .local .tc .vmem, ⟨1, _⟩ => ⟨S1x2048x128, .f32⟩
  | .local .tc .vmem, ⟨2, _⟩ => ⟨S1x2048x1, .i32⟩
  | .local .tc .vmem, ⟨3, _⟩ => ⟨S1x2048x1, .i32⟩
  | .local .tc .vmem, ⟨4, _⟩ => ⟨S128x1024, .f32⟩
  | .local .tc .vmem, ⟨5, _⟩ => ⟨S256x1024, .f32⟩
  | .local .tc .vmem, ⟨6, _⟩ => ⟨S1x1024, .f32⟩
  | .local .tc .vmem, ⟨7, _⟩ => ⟨S1024x256, .f32⟩
  | .local .tc .vmem, ⟨8, _⟩ => ⟨S1024x256, .f32⟩
  | .local .tc .vmem, ⟨9, _⟩ => ⟨S1024x1, .f32⟩
  | .local .tc .vmem, ⟨10, _⟩ => ⟨S2048x256, .f32⟩
  | .local .tc .vmem, ⟨11, _⟩ => ⟨S2048x256, .f32⟩
  | .local .scVector .vmem, ⟨0, _⟩ => ⟨S100x128, .i32⟩
  | .local .scVector .vmem, ⟨1, _⟩ => ⟨S128x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v8 : Ref sig .tc := ⟨.hbm, 16, rfl⟩
abbrev main_arg2_scv : Ref sig .scVector := ⟨.hbm, 2, rfl⟩
abbrev main_v2_scv : Ref sig .scVector := ⟨.hbm, 8, rfl⟩
abbrev main_v3_scv : Ref sig .scVector := ⟨.hbm, 9, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_scratch0 : Ref sig .tc := ⟨.vmem, 10, rfl⟩
abbrev cc1_scratch1 : Ref sig .tc := ⟨.vmem, 11, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3_r0 : BitVec 32 := 0#32
  let c0_i32_4_r0 : BitVec 32 := 0#32
  ![v1.toNat, 0, 0]
@[reducible] def k0_t1_loop : Scf.Loop 32 :=
  let c0_i32_0 : BitVec 32 := 0#32
  let c100_i32_1 : BitVec 32 := 100#32
  let v3 : BitVec 32 := Scalar.addi c0_i32_0 c100_i32_1
  let c1_i32 : BitVec 32 := 1#32
  ⟨c0_i32_0, v3, c1_i32⟩
def k0_off2 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let c0_i32_3 : BitVec 32 := 0#32
  ![arg8.toNat, 0]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c100_i32 : BitVec 32 := 100#32
  let v2 : BitVec 32 := Scalar.muli v1 c100_i32
  let c0_i32_0 : BitVec 32 := 0#32
  let c1_i32 : BitVec 32 := 1#32
  let arg8 : BitVec 32 := Scf.iv c0_i32_0 c1_i32 k0_t1
  let v10 : BitVec 32 := Scalar.addi v2 arg8
  let c128_i32 : BitVec 32 := 128#32
  let v11 : BitVec 32 := Scalar.muli v10 c128_i32
  let c0_i32_9_r1 : BitVec 32 := 0#32
  ![v11.toNat, 0]
abbrev grid1 : Pipeline.Grid := ⟨1, ![200], ![false]⟩

def k1_cond2 (i : grid1.Coords) : BitVec 1 :=
  let arg0 : BitVec 32 := BitVec.ofNat 32 (i 0).val
  let c199_i32 : BitVec 32 := 199#32
  let v47 : BitVec 1 := Scalar.cmpi .eq arg0 c199_i32
  let v48 : BitVec 32 := Scalar.extui v47
  let c0_i32_26 : BitVec 32 := 0#32
  let v49 : BitVec 1 := Scalar.cmpi .ne v48 c0_i32_26
  v49

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S100001x128 : Shape := ⟨2, ![100001, 128]⟩
abbrev S128x1024 : Shape := ⟨2, ![128, 1024]⟩
abbrev S256x1024 : Shape := ⟨2, ![256, 1024]⟩
abbrev S1024 : Shape := ⟨1, ![1024]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S200x1024x128 : Shape := ⟨3, ![200, 1024, 128]⟩
abbrev S200x1024 : Shape := ⟨2, ![200, 1024]⟩
abbrev S1024x256 : Shape := ⟨2, ![1024, 256]⟩
abbrev S1x1024x128 : Shape := ⟨3, ![1, 1024, 128]⟩
abbrev S1024x128 : Shape := ⟨2, ![1024, 128]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 208
  | .vmem => 0
  | .smem => 0
  | _ => 0

abbrev hbmTy0_0 (i : Nat) : BufTy := match i % 128 with
  | 0 => ⟨S1024x200, .i32⟩
  | 1 => ⟨S1024x200, .i32⟩
  | 2 => ⟨S100001x128, .f32⟩
  | 3 => ⟨S128x1024, .f32⟩
  | 4 => ⟨S256x1024, .f32⟩
  | 5 => ⟨S1024, .f32⟩
  | 6 => ⟨S_, .i32⟩
  | 7 => ⟨S1024x200, .i32⟩
  | 8 => ⟨S1024x200, .i1⟩
  | 9 => ⟨S_, .i32⟩
  | 10 => ⟨S1024x200, .i32⟩
  | 11 => ⟨S1024x200, .i32⟩
  | 12 => ⟨S1024x200, .i32⟩
  | 13 => ⟨S1024x200x1, .i32⟩
  | 14 => ⟨S1, .i32⟩
  | 15 => ⟨S_, .i32⟩
  | 16 => ⟨S1024x200x1, .i32⟩
  | 17 => ⟨S1024x200x1, .i1⟩
  | 18 => ⟨S1x1x1, .i32⟩
  | 19 => ⟨S1024x200x1, .i32⟩
  | 20 => ⟨S1024x200x1, .i1⟩
  | 21 => ⟨S1024x200x1, .i1⟩
  | 22 => ⟨S_, .i1⟩
  | 23 => ⟨S1024x200, .i1⟩
  | 24 => ⟨S1024x200x128, .f32⟩
  | 25 => ⟨S1024x200x128, .i1⟩
  | 26 => ⟨S_, .f32⟩
  | 27 => ⟨S1024x200x128, .f32⟩
  | 28 => ⟨S1024x200x128, .f32⟩
  | 29 => ⟨S_, .i32⟩
  | 30 => ⟨S1024x200, .i32⟩
  | 31 => ⟨S1024x200, .i1⟩
  | 32 => ⟨S_, .i32⟩
  | 33 => ⟨S1024x200, .i32⟩
  | 34 => ⟨S1024x200, .i1⟩
  | 35 => ⟨S_, .i32⟩
  | 36 => ⟨S1024x200, .i32⟩
  | 37 => ⟨S1024x200, .i32⟩
  | 38 => ⟨S1024x200, .i32⟩
  | 39 => ⟨S1024x200x1, .i32⟩
  | 40 => ⟨S1, .i32⟩
  | 41 => ⟨S_, .i32⟩
  | 42 => ⟨S1024x200x1, .i32⟩
  | 43 => ⟨S1024x200x1, .i1⟩
  | 44 => ⟨S1x1x1, .i32⟩
  | 45 => ⟨S1024x200x1, .i32⟩
  | 46 => ⟨S1024x200x1, .i1⟩
  | 47 => ⟨S1024x200x1, .i1⟩
  | 48 => ⟨S_, .i1⟩
  | 49 => ⟨S1024x200, .i1⟩
  | 50 => ⟨S1024x200x128, .f32⟩
  | 51 => ⟨S1024x200x128, .i1⟩
  | 52 => ⟨S_, .f32⟩
  | 53 => ⟨S1024x200x128, .f32⟩
  | 54 => ⟨S1024x200x128, .f32⟩
  | 55 => ⟨S_, .i32⟩
  | 56 => ⟨S1024x200, .i32⟩
  | 57 => ⟨S1024x200, .i1⟩
  | 58 => ⟨S200x1024x128, .f32⟩
  | 59 => ⟨S200x1024, .i1⟩
  | 60 => ⟨S200x1024x128, .f32⟩
  | 61 => ⟨S200x1024, .i1⟩
  | 62 => ⟨S_, .f32⟩
  | 63 => ⟨S1024x256, .f32⟩
  | 64 => ⟨S_, .i32⟩
  | 65 => ⟨S200x1024x128, .f32⟩
  | 66 => ⟨S200x1024, .i1⟩
  | 67 => ⟨S200x1024x128, .f32⟩
  | 68 => ⟨S200x1024, .i1⟩
  | 69 => ⟨S128x1024, .f32⟩
  | 70 => ⟨S256x1024, .f32⟩
  | 71 => ⟨S1024, .f32⟩
  | 72 => ⟨S_, .i32⟩
  | 73 => ⟨S1024x256, .f32⟩
  | 74 => ⟨S1024x256, .f32⟩
  | 75 => ⟨S1024x256, .f32⟩
  | 76 => ⟨S1024x256, .f32⟩
  | 77 => ⟨S_, .i32⟩
  | 78 => ⟨S_, .i1⟩
  | 79 => ⟨S_, .i32⟩
  | 80 => ⟨S_, .i32⟩
  | 81 => ⟨S1x1024x128, .f32⟩
  | 82 => ⟨S1024x128, .f32⟩
  | 83 => ⟨S_, .i32⟩
  | 84 => ⟨S1x1024, .i1⟩
  | 85 => ⟨S1024, .i1⟩
  | 86 => ⟨S_, .i32⟩
  | 87 => ⟨S_, .i32⟩
  | 88 => ⟨S1x1024x128, .f32⟩
  | 89 => ⟨S1024x128, .f32⟩
  | 90 => ⟨S_, .i32⟩
  | 91 => ⟨S1x1024, .i1⟩
  | 92 => ⟨S1024, .i1⟩
  | 93 => ⟨S1024x1024, .f32⟩
  | 94 => ⟨S1024x1024, .f32⟩
  | 95 => ⟨S1024x1024, .f32⟩
  | 96 => ⟨S1x1024, .f32⟩
  | 97 => ⟨S1024x1024, .f32⟩
  | 98 => ⟨S1024x1024, .f32⟩
  | 99 => ⟨S1024x256, .f32⟩
  | 100 => ⟨S1024x256, .f32⟩
  | 101 => ⟨S1024x256, .f32⟩
  | 102 => ⟨S_, .f32⟩
  | 103 => ⟨S1024x256, .f32⟩
  | 104 => ⟨S1024x256, .f32⟩
  | 105 => ⟨S_, .f32⟩
  | 106 => ⟨S1024x256, .f32⟩
  | 107 => ⟨S1024x256, .f32⟩
  | 108 => ⟨S1024x256, .f32⟩
  | 109 => ⟨S1024x256, .f32⟩
  | 110 => ⟨S1024x256, .f32⟩
  | 111 => ⟨S_, .f32⟩
  | 112 => ⟨S1024x256, .f32⟩
  | 113 => ⟨S1024x256, .f32⟩
  | 114 => ⟨S_, .f32⟩
  | 115 => ⟨S1024x256, .f32⟩
  | 116 => ⟨S1024x256, .f32⟩
  | 117 => ⟨S1024x256, .f32⟩
  | 118 => ⟨S1024x256, .f32⟩
  | 119 => ⟨S1024x256, .f32⟩
  | 120 => ⟨S1024x256, .f32⟩
  | 121 => ⟨S1024x256, .f32⟩
  | 122 => ⟨S_, .f32⟩
  | 123 => ⟨S1024x256, .f32⟩
  | 124 => ⟨S1024x256, .f32⟩
  | 125 => ⟨S_, .f32⟩
  | 126 => ⟨S1024x256, .f32⟩
  | 127 => ⟨S1024x256, .f32⟩
  | _ => ⟨S1024x200, .i32⟩

abbrev hbmTy0_1 (i : Nat) : BufTy := match i % 128 with
  | 0 => ⟨S1024x256, .f32⟩
  | 1 => ⟨S1024x256, .f32⟩
  | 2 => ⟨S1024x256, .f32⟩
  | 3 => ⟨S1024x256, .f32⟩
  | 4 => ⟨S1024x256, .f32⟩
  | 5 => ⟨S1024x1, .i1⟩
  | 6 => ⟨S1024x256, .i1⟩
  | 7 => ⟨S1024x256, .f32⟩
  | 8 => ⟨S1024x256, .i1⟩
  | 9 => ⟨S1024x256, .f32⟩
  | 10 => ⟨S1024x1024, .f32⟩
  | 11 => ⟨S1024x1024, .f32⟩
  | 12 => ⟨S1024x1024, .f32⟩
  | 13 => ⟨S1x1024, .f32⟩
  | 14 => ⟨S1024x1024, .f32⟩
  | 15 => ⟨S1024x1024, .f32⟩
  | 16 => ⟨S1024x256, .f32⟩
  | 17 => ⟨S1024x256, .f32⟩
  | 18 => ⟨S1024x256, .f32⟩
  | 19 => ⟨S_, .f32⟩
  | 20 => ⟨S1024x256, .f32⟩
  | 21 => ⟨S1024x256, .f32⟩
  | 22 => ⟨S_, .f32⟩
  | 23 => ⟨S1024x256, .f32⟩
  | 24 => ⟨S1024x256, .f32⟩
  | 25 => ⟨S1024x256, .f32⟩
  | 26 => ⟨S1024x256, .f32⟩
  | 27 => ⟨S1024x256, .f32⟩
  | 28 => ⟨S_, .f32⟩
  | 29 => ⟨S1024x256, .f32⟩
  | 30 => ⟨S1024x256, .f32⟩
  | 31 => ⟨S_, .f32⟩
  | 32 => ⟨S1024x256, .f32⟩
  | 33 => ⟨S1024x256, .f32⟩
  | 34 => ⟨S1024x256, .f32⟩
  | 35 => ⟨S1024x256, .f32⟩
  | 36 => ⟨S1024x256, .f32⟩
  | 37 => ⟨S1024x256, .f32⟩
  | 38 => ⟨S1024x256, .f32⟩
  | 39 => ⟨S_, .f32⟩
  | 40 => ⟨S1024x256, .f32⟩
  | 41 => ⟨S1024x256, .f32⟩
  | 42 => ⟨S_, .f32⟩
  | 43 => ⟨S1024x256, .f32⟩
  | 44 => ⟨S1024x256, .f32⟩
  | 45 => ⟨S1024x256, .f32⟩
  | 46 => ⟨S1024x256, .f32⟩
  | 47 => ⟨S1024x256, .f32⟩
  | 48 => ⟨S1024x256, .f32⟩
  | 49 => ⟨S1024x256, .f32⟩
  | 50 => ⟨S1024x1, .i1⟩
  | 51 => ⟨S1024x256, .i1⟩
  | 52 => ⟨S1024x256, .f32⟩
  | 53 => ⟨S1024x256, .i1⟩
  | 54 => ⟨S1024x256, .f32⟩
  | 55 => ⟨S_, .i32⟩
  | 56 => ⟨S_, .i32⟩
  | 57 => ⟨S1024x256, .f32⟩
  | 58 => ⟨S_, .f32⟩
  | 59 => ⟨S1024, .f32⟩
  | 60 => ⟨S1024x1, .f32⟩
  | 61 => ⟨S_, .f32⟩
  | 62 => ⟨S1024x1, .f32⟩
  | 63 => ⟨S1024x1, .f32⟩
  | 64 => ⟨S1024x1, .f32⟩
  | 65 => ⟨S1024x256, .f32⟩
  | 66 => ⟨S1024x256, .f32⟩
  | 67 => ⟨S1024x256, .f32⟩
  | 68 => ⟨S_, .f32⟩
  | 69 => ⟨S1024, .f32⟩
  | 70 => ⟨S1024x1, .f32⟩
  | 71 => ⟨S_, .f32⟩
  | 72 => ⟨S1024x1, .f32⟩
  | 73 => ⟨S1024x1, .f32⟩
  | 74 => ⟨S1024x1, .f32⟩
  | 75 => ⟨S1024x256, .f32⟩
  | 76 => ⟨S1024x256, .f32⟩
  | 77 => ⟨S1024x256, .f32⟩
  | 78 => ⟨S_, .f32⟩
  | 79 => ⟨S1024, .f32⟩
  | _ => ⟨S1024x200, .i32⟩

abbrev hbmTy (i : Nat) : BufTy := match i / 128 with
  | 0 => hbmTy0_0 i
  | 1 => hbmTy0_1 i
  | _ => ⟨S1024x200, .i32⟩

abbrev bufTy : (tb : Table) → Fin (tcTables nBuf tb) → BufTy
  | .hbm, ⟨i, _⟩ => hbmTy i
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_c : Ref sig .tc := ⟨.hbm, 29, rfl⟩
abbrev main_v1 : Ref sig .tc := ⟨.hbm, 30, rfl⟩
abbrev main_v2 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v3 : Ref sig .tc := ⟨.hbm, 54, rfl⟩
abbrev main_c_0 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_cst : Ref sig .tc := ⟨.hbm, 62, rfl⟩
abbrev main_v10 : Ref sig .tc := ⟨.hbm, 63, rfl⟩
abbrev main_c_1 : Ref sig .tc := ⟨.hbm, 64, rfl⟩
abbrev main_v11_0 : Ref sig .tc := ⟨.hbm, 65, rfl⟩
abbrev main_v11_1 : Ref sig .tc := ⟨.hbm, 66, rfl⟩
abbrev main_v11_2 : Ref sig .tc := ⟨.hbm, 67, rfl⟩
abbrev main_v11_3 : Ref sig .tc := ⟨.hbm, 68, rfl⟩
abbrev main_v11_4 : Ref sig .tc := ⟨.hbm, 69, rfl⟩
abbrev main_v11_5 : Ref sig .tc := ⟨.hbm, 70, rfl⟩
abbrev main_v11_6 : Ref sig .tc := ⟨.hbm, 71, rfl⟩
abbrev main_v11_7 : Ref sig .tc := ⟨.hbm, 72, rfl⟩
abbrev main_v11_8 : Ref sig .tc := ⟨.hbm, 73, rfl⟩
abbrev main_v11_9 : Ref sig .tc := ⟨.hbm, 74, rfl⟩
abbrev main_v11_10 : Ref sig .tc := ⟨.hbm, 75, rfl⟩
abbrev main_v11_11 : Ref sig .tc := ⟨.hbm, 76, rfl⟩
abbrev main_while0c_c_18 : Ref sig .tc := ⟨.hbm, 77, rfl⟩
abbrev main_while0c_v30 : Ref sig .tc := ⟨.hbm, 78, rfl⟩
abbrev main_while0b_call2_c : Ref sig .tc := ⟨.hbm, 79, rfl⟩
abbrev main_while0b_call2_c_0 : Ref sig .tc := ⟨.hbm, 80, rfl⟩
abbrev main_while0b_call2_v0 : Ref sig .tc := ⟨.hbm, 81, rfl⟩
abbrev main_while0b_v30 : Ref sig .tc := ⟨.hbm, 82, rfl⟩
abbrev main_while0b_call3_c : Ref sig .tc := ⟨.hbm, 83, rfl⟩
abbrev main_while0b_call3_v0 : Ref sig .tc := ⟨.hbm, 84, rfl⟩
abbrev main_while0b_v31 : Ref sig .tc := ⟨.hbm, 85, rfl⟩
abbrev main_while0b_call4_c : Ref sig .tc := ⟨.hbm, 86, rfl⟩
abbrev main_while0b_call4_c_0 : Ref sig .tc := ⟨.hbm, 87, rfl⟩
abbrev main_while0b_call4_v0 : Ref sig .tc := ⟨.hbm, 88, rfl⟩
abbrev main_while0b_v32 : Ref sig .tc := ⟨.hbm, 89, rfl⟩
abbrev main_while0b_call5_c : Ref sig .tc := ⟨.hbm, 90, rfl⟩
abbrev main_while0b_call5_v0 : Ref sig .tc := ⟨.hbm, 91, rfl⟩
abbrev main_while0b_v33 : Ref sig .tc := ⟨.hbm, 92, rfl⟩
abbrev main_while0b_v34 : Ref sig .tc := ⟨.hbm, 93, rfl⟩
abbrev main_while0b_v35 : Ref sig .tc := ⟨.hbm, 94, rfl⟩
abbrev main_while0b_v36 : Ref sig .tc := ⟨.hbm, 95, rfl⟩
abbrev main_while0b_v37 : Ref sig .tc := ⟨.hbm, 96, rfl⟩
abbrev main_while0b_v38 : Ref sig .tc := ⟨.hbm, 97, rfl⟩
abbrev main_while0b_v39 : Ref sig .tc := ⟨.hbm, 98, rfl⟩
abbrev main_while0b_v40 : Ref sig .tc := ⟨.hbm, 99, rfl⟩
abbrev main_while0b_v41 : Ref sig .tc := ⟨.hbm, 100, rfl⟩
abbrev main_while0b_v42 : Ref sig .tc := ⟨.hbm, 101, rfl⟩
abbrev main_while0b_cst_18 : Ref sig .tc := ⟨.hbm, 102, rfl⟩
abbrev main_while0b_v43 : Ref sig .tc := ⟨.hbm, 103, rfl⟩
abbrev main_while0b_v44 : Ref sig .tc := ⟨.hbm, 104, rfl⟩
abbrev main_while0b_cst_19 : Ref sig .tc := ⟨.hbm, 105, rfl⟩
abbrev main_while0b_v45 : Ref sig .tc := ⟨.hbm, 106, rfl⟩
abbrev main_while0b_v46 : Ref sig .tc := ⟨.hbm, 107, rfl⟩
abbrev main_while0b_v47 : Ref sig .tc := ⟨.hbm, 108, rfl⟩
abbrev main_while0b_v48 : Ref sig .tc := ⟨.hbm, 109, rfl⟩
abbrev main_while0b_v49 : Ref sig .tc := ⟨.hbm, 110, rfl⟩
abbrev main_while0b_cst_20 : Ref sig .tc := ⟨.hbm, 111, rfl⟩
abbrev main_while0b_v50 : Ref sig .tc := ⟨.hbm, 112, rfl⟩
abbrev main_while0b_v51 : Ref sig .tc := ⟨.hbm, 113, rfl⟩
abbrev main_while0b_cst_21 : Ref sig .tc := ⟨.hbm, 114, rfl⟩
abbrev main_while0b_v52 : Ref sig .tc := ⟨.hbm, 115, rfl⟩
abbrev main_while0b_v53 : Ref sig .tc := ⟨.hbm, 116, rfl⟩
abbrev main_while0b_v54 : Ref sig .tc := ⟨.hbm, 117, rfl⟩
abbrev main_while0b_v55 : Ref sig .tc := ⟨.hbm, 118, rfl⟩
abbrev main_while0b_v56 : Ref sig .tc := ⟨.hbm, 119, rfl⟩
abbrev main_while0b_v57 : Ref sig .tc := ⟨.hbm, 120, rfl⟩
abbrev main_while0b_v58 : Ref sig .tc := ⟨.hbm, 121, rfl⟩
abbrev main_while0b_cst_22 : Ref sig .tc := ⟨.hbm, 122, rfl⟩
abbrev main_while0b_v59 : Ref sig .tc := ⟨.hbm, 123, rfl⟩
abbrev main_while0b_v60 : Ref sig .tc := ⟨.hbm, 124, rfl⟩
abbrev main_while0b_cst_23 : Ref sig .tc := ⟨.hbm, 125, rfl⟩
abbrev main_while0b_v61 : Ref sig .tc := ⟨.hbm, 126, rfl⟩
abbrev main_while0b_v62 : Ref sig .tc := ⟨.hbm, 127, rfl⟩
abbrev main_while0b_v63 : Ref sig .tc := ⟨.hbm, 128, rfl⟩
abbrev main_while0b_v64 : Ref sig .tc := ⟨.hbm, 129, rfl⟩
abbrev main_while0b_v65 : Ref sig .tc := ⟨.hbm, 130, rfl⟩
abbrev main_while0b_v66 : Ref sig .tc := ⟨.hbm, 131, rfl⟩
abbrev main_while0b_v67 : Ref sig .tc := ⟨.hbm, 132, rfl⟩
abbrev main_while0b_v68 : Ref sig .tc := ⟨.hbm, 133, rfl⟩
abbrev main_while0b_call6_v0 : Ref sig .tc := ⟨.hbm, 134, rfl⟩
abbrev main_while0b_v69 : Ref sig .tc := ⟨.hbm, 135, rfl⟩
abbrev main_while0b_call7_v0 : Ref sig .tc := ⟨.hbm, 136, rfl⟩
abbrev main_while0b_v70 : Ref sig .tc := ⟨.hbm, 137, rfl⟩
abbrev main_while0b_v71 : Ref sig .tc := ⟨.hbm, 138, rfl⟩
abbrev main_while0b_v72 : Ref sig .tc := ⟨.hbm, 139, rfl⟩
abbrev main_while0b_v73 : Ref sig .tc := ⟨.hbm, 140, rfl⟩
abbrev main_while0b_v74 : Ref sig .tc := ⟨.hbm, 141, rfl⟩
abbrev main_while0b_v75 : Ref sig .tc := ⟨.hbm, 142, rfl⟩
abbrev main_while0b_v76 : Ref sig .tc := ⟨.hbm, 143, rfl⟩
abbrev main_while0b_v77 : Ref sig .tc := ⟨.hbm, 144, rfl⟩
abbrev main_while0b_v78 : Ref sig .tc := ⟨.hbm, 145, rfl⟩
abbrev main_while0b_v79 : Ref sig .tc := ⟨.hbm, 146, rfl⟩
abbrev main_while0b_cst_24 : Ref sig .tc := ⟨.hbm, 147, rfl⟩
abbrev main_while0b_v80 : Ref sig .tc := ⟨.hbm, 148, rfl⟩
abbrev main_while0b_v81 : Ref sig .tc := ⟨.hbm, 149, rfl⟩
abbrev main_while0b_cst_25 : Ref sig .tc := ⟨.hbm, 150, rfl⟩
abbrev main_while0b_v82 : Ref sig .tc := ⟨.hbm, 151, rfl⟩
abbrev main_while0b_v83 : Ref sig .tc := ⟨.hbm, 152, rfl⟩
abbrev main_while0b_v84 : Ref sig .tc := ⟨.hbm, 153, rfl⟩
abbrev main_while0b_v85 : Ref sig .tc := ⟨.hbm, 154, rfl⟩
abbrev main_while0b_v86 : Ref sig .tc := ⟨.hbm, 155, rfl⟩
abbrev main_while0b_cst_26 : Ref sig .tc := ⟨.hbm, 156, rfl⟩
abbrev main_while0b_v87 : Ref sig .tc := ⟨.hbm, 157, rfl⟩
abbrev main_while0b_v88 : Ref sig .tc := ⟨.hbm, 158, rfl⟩
abbrev main_while0b_cst_27 : Ref sig .tc := ⟨.hbm, 159, rfl⟩
abbrev main_while0b_v89 : Ref sig .tc := ⟨.hbm, 160, rfl⟩
abbrev main_while0b_v90 : Ref sig .tc := ⟨.hbm, 161, rfl⟩
abbrev main_while0b_v91 : Ref sig .tc := ⟨.hbm, 162, rfl⟩
abbrev main_while0b_v92 : Ref sig .tc := ⟨.hbm, 163, rfl⟩
abbrev main_while0b_v93 : Ref sig .tc := ⟨.hbm, 164, rfl⟩
abbrev main_while0b_v94 : Ref sig .tc := ⟨.hbm, 165, rfl⟩
abbrev main_while0b_v95 : Ref sig .tc := ⟨.hbm, 166, rfl⟩
abbrev main_while0b_cst_28 : Ref sig .tc := ⟨.hbm, 167, rfl⟩
abbrev main_while0b_v96 : Ref sig .tc := ⟨.hbm, 168, rfl⟩
abbrev main_while0b_v97 : Ref sig .tc := ⟨.hbm, 169, rfl⟩
abbrev main_while0b_cst_29 : Ref sig .tc := ⟨.hbm, 170, rfl⟩
abbrev main_while0b_v98 : Ref sig .tc := ⟨.hbm, 171, rfl⟩
abbrev main_while0b_v99 : Ref sig .tc := ⟨.hbm, 172, rfl⟩
abbrev main_while0b_v100 : Ref sig .tc := ⟨.hbm, 173, rfl⟩
abbrev main_while0b_v101 : Ref sig .tc := ⟨.hbm, 174, rfl⟩
abbrev main_while0b_v102 : Ref sig .tc := ⟨.hbm, 175, rfl⟩
abbrev main_while0b_v103 : Ref sig .tc := ⟨.hbm, 176, rfl⟩
abbrev main_while0b_v104 : Ref sig .tc := ⟨.hbm, 177, rfl⟩
abbrev main_while0b_v105 : Ref sig .tc := ⟨.hbm, 178, rfl⟩
abbrev main_while0b_call8_v0 : Ref sig .tc := ⟨.hbm, 179, rfl⟩
abbrev main_while0b_v106 : Ref sig .tc := ⟨.hbm, 180, rfl⟩
abbrev main_while0b_call9_v0 : Ref sig .tc := ⟨.hbm, 181, rfl⟩
abbrev main_while0b_v107 : Ref sig .tc := ⟨.hbm, 182, rfl⟩
abbrev main_while0b_c_30 : Ref sig .tc := ⟨.hbm, 183, rfl⟩
abbrev main_while0b_v108 : Ref sig .tc := ⟨.hbm, 184, rfl⟩
abbrev main_v12 : Ref sig .tc := ⟨.hbm, 185, rfl⟩
abbrev main_cst_2 : Ref sig .tc := ⟨.hbm, 186, rfl⟩
abbrev main_v13 : Ref sig .tc := ⟨.hbm, 187, rfl⟩
abbrev main_v14 : Ref sig .tc := ⟨.hbm, 188, rfl⟩
abbrev main_cst_3 : Ref sig .tc := ⟨.hbm, 189, rfl⟩
abbrev main_v15 : Ref sig .tc := ⟨.hbm, 190, rfl⟩
abbrev main_v16 : Ref sig .tc := ⟨.hbm, 191, rfl⟩
abbrev main_v17 : Ref sig .tc := ⟨.hbm, 192, rfl⟩
abbrev main_v18 : Ref sig .tc := ⟨.hbm, 193, rfl⟩
abbrev main_v19 : Ref sig .tc := ⟨.hbm, 194, rfl⟩
abbrev main_v20 : Ref sig .tc := ⟨.hbm, 195, rfl⟩
abbrev main_cst_4 : Ref sig .tc := ⟨.hbm, 196, rfl⟩
abbrev main_v21 : Ref sig .tc := ⟨.hbm, 197, rfl⟩
abbrev main_v22 : Ref sig .tc := ⟨.hbm, 198, rfl⟩
abbrev main_cst_5 : Ref sig .tc := ⟨.hbm, 199, rfl⟩
abbrev main_v23 : Ref sig .tc := ⟨.hbm, 200, rfl⟩
abbrev main_v24 : Ref sig .tc := ⟨.hbm, 201, rfl⟩
abbrev main_v25 : Ref sig .tc := ⟨.hbm, 202, rfl⟩
abbrev main_v26 : Ref sig .tc := ⟨.hbm, 203, rfl⟩
abbrev main_v27 : Ref sig .tc := ⟨.hbm, 204, rfl⟩
abbrev main_v28 : Ref sig .tc := ⟨.hbm, 205, rfl⟩
abbrev main_cst_6 : Ref sig .tc := ⟨.hbm, 206, rfl⟩
abbrev main_v29 : Ref sig .tc := ⟨.hbm, 207, rfl⟩

abbrev nD : Nat := 1
abbrev τ : Topo := Topo.v7x

variable {F : FTy → Type} [FloatOps F]

abbrev main_while0_count : Scf.Loop 32 := ⟨0#32, 200#32, 1#32⟩
-- ==== Proof.Setup.lean ====
/-
  The program as the launch theorem of SparseCore programs sees it, the buffers' names, and the pure facts of the
  SparseCore kernel's addressing: which elements each tile's slices name, and what the indirect gather delivers. Tile
  `(c, i)` of the 2 x 16 mesh is worker `2 * i + c`; it reads plane `2 * i + c` of the 32 x 100 x 128 row numbers and
  writes the 12800 rows of the result from `12800 * (2 * i + c)` on, 128 rows a trip.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ShareLeaves
public import Idealize.ShloMosaic.Lib.Pointwise.Index
public import proofs.«01_k».proof.Proof.Gen.KernelIdeal
public import proofs.«01_k».proof.Proof.Gen.KernelIdeal.Skeleton

@[expose] public section

noncomputable section

namespace Cert.Proof.Lstm

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipeline's rounds, the transfers' counters -/

abbrev UH : Type := URounds (GSem nD τ sig) ℕ
abbrev UP : Type := UR sig nD τ
abbrev UU : Type := UH × (UP × Counters)

local notation "𝕄" => MT nD τ sig (HIx 1) (Elt F) ℕ UU ℕ

/-- The handshakes' rounds in the resource algebra. -/
abbrev EH : Emb UH (MT nD τ sig (HIx 1) (Elt F) ℕ UU ℕ) := embL

/-! ## The buffers -/

abbrev iLoc (d : Dev nD) : Loc nD τ sig := (SparseCore.T d).loc main_v2
abbrev xLoc (d : Dev nD) : Loc nD τ sig := (SparseCore.T d).loc main_arg2
abbrev oLoc (d : Dev nD) : Loc nD τ sig := (SparseCore.T d).loc main_v3

local notation "iV" => (Memref.whole Cert.KernelIdeal.main_v2_scv : Memref Cert.KernelIdeal.sig Kind.scVector Space.hbm Cert.KernelIdeal.S32x100x128 EltTy.i32)
local notation "xV" => (Memref.whole Cert.KernelIdeal.main_arg2_scv : Memref Cert.KernelIdeal.sig Kind.scVector Space.hbm Cert.KernelIdeal.S100001x128 EltTy.f32)
local notation "oV" => (Memref.whole Cert.KernelIdeal.main_v3_scv : Memref Cert.KernelIdeal.sig Kind.scVector Space.hbm Cert.KernelIdeal.S409600x128 EltTy.f32)
local notation "sV" => (Memref.whole Cert.KernelIdeal.cc0_scratch0 : Memref Cert.KernelIdeal.sig Kind.scVector Space.vmem Cert.KernelIdeal.S100x128 EltTy.i32)

/-! ## The slices the tile addresses -/

/-- The worker's number. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

/-- The plane of row numbers the tile fetches. -/
abbrev iPl (L : grid0.Coords) : Memref sig .scVector .hbm S100x128 .i32 :=
  ((iV).slice (Rect.unit (s := S32x100x128) (k0_off1 L) S1x100x128.size (k0_off1_inb L)) (fun _ => rfl)).squeeze S100x128 squeezes_S1x100x128_S100x128
/-- Row `t` of the fetched row numbers, the list of trip `t`'s gather. -/
abbrev sRow (t : Fin k0_t1_loop.trips) : Memref sig .scVector .vmem S128 .i32 :=
  ((sV).slice (Rect.unit (s := S100x128) (k0_off2 t) S1x128.size (k0_off2_inb t)) (fun _ => rfl)).squeeze S128 squeezes_S1x128_S128
/-- The table, as the gather addresses it. -/
abbrev xAll : Memref sig .scVector .hbm S100001x128 .f32 :=
  (xV).slice (Rect.unit (s := S100001x128) ![0, 0] S100001x128.size inb_S100001x128_S100001x128_0_0) (fun _ => rfl)
/-- The 128 rows of the result trip `t` writes. -/
abbrev oCh (L : grid0.Coords) (t : Fin k0_t1_loop.trips) : Memref sig .scVector .hbm S128x128 .f32 :=
  (oV).slice (Rect.unit (s := S409600x128) (k0_off3 L t) S128x128.size (k0_off3_inb L t)) (fun _ => rfl)

theorem trips_eq : k0_t1_loop.trips = 100 := by decide +kernel

theorem trip_lt (t : Fin k0_t1_loop.trips) : t.val < 100 := lt_of_lt_of_eq t.isLt trips_eq

theorem emb_iPl (L : grid0.Coords) (x : S100x128.Idx) :
    (iPl L).view.emb x = ix3 (⟨wid L, wid_lt L⟩ : Fin 32) (x 0 : Fin 100) (x 1 : Fin 128) := by
  have hx : Shape.reshapeEquiv squeezes_S1x100x128_S100x128.numel_eq x = ix3 (0 : Fin 1) (x 0 : Fin 100) (x 1 : Fin 128) := by
    refine S1x100x128.rowMajor.injective (Fin.ext ?_)
    refine (Shape.rowMajor_reshapeEquiv _ x).trans ((Shape.rowMajor_val_two x).trans (Eq.trans ?_ (Shape.rowMajor_val_three _).symm))
    show (x 0).val * 128 + (x 1).val = (0 * 100 + (x 0).val) * 128 + (x 1).val
    omega
  show (Rect.unit (s := S32x100x128) (k0_off1 L) S1x100x128.size (k0_off1_inb L)).emb (Shape.reshapeEquiv squeezes_S1x100x128_S100x128.numel_eq x) = _
  rw [hx]
  funext a
  apply Fin.ext
  refine (Rect.emb_apply _ _ _).trans ?_
  match a with
  | 0 => have e : k0_off1 L 0 = wid L := congrFun (k0_off1_eq L) 0; show k0_off1 L 0 + 1 * 0 = wid L; omega
  | 1 => have e : k0_off1 L 1 = 0 := congrFun (k0_off1_eq L) 1; show k0_off1 L 1 + 1 * (x 0).val = (x 0).val; omega
  | 2 => have e : k0_off1 L 2 = 0 := congrFun (k0_off1_eq L) 2; show k0_off1 L 2 + 1 * (x 1).val = (x 1).val; omega

theorem emb_sRow (t : Fin k0_t1_loop.trips) (x : S128.Idx) :
    (sRow t).view.emb x = ix2 (⟨t.val, trip_lt t⟩ : Fin 100) (x 0 : Fin 128) := by
  have hx : Shape.reshapeEquiv squeezes_S1x128_S128.numel_eq x = ix2 (0 : Fin 1) (x 0 : Fin 128) := by
    refine S1x128.rowMajor.injective (Fin.ext ?_)
    refine (Shape.rowMajor_reshapeEquiv _ x).trans ((Shape.rowMajor_val_one x).trans (Eq.trans ?_ (Shape.rowMajor_val_two _).symm))
    show (x 0).val = 0 * 128 + (x 0).val
    omega
  show (Rect.unit (s := S100x128) (k0_off2 t) S1x128.size (k0_off2_inb t)).emb (Shape.reshapeEquiv squeezes_S1x128_S128.numel_eq x) = _
  rw [hx]
  funext a
  apply Fin.ext
  refine (Rect.emb_apply _ _ _).trans ?_
  match a with
  | 0 => have e : k0_off2 t 0 = t.val := congrFun (k0_off2_eq t) 0; show k0_off2 t 0 + 1 * 0 = t.val; omega
  | 1 => have e : k0_off2 t 1 = 0 := congrFun (k0_off2_eq t) 1; show k0_off2 t 1 + 1 * (x 0).val = (x 0).val; omega

theorem emb_xAll (x : S100001x128.Idx) : (xAll).view.emb x = x := by
  show (Rect.unit (s := S100001x128) ![0, 0] S100001x128.size inb_S100001x128_S100001x128_0_0).emb x = _
  funext a
  apply Fin.ext
  refine (Rect.emb_apply _ _ _).trans ?_
  match a with
  | 0 => show 0 + 1 * (x 0).val = (x 0).val; omega
  | 1 => show 0 + 1 * (x 1).val = (x 1).val; omega

theorem emb_oCh (L : grid0.Coords) (t : Fin k0_t1_loop.trips) (x : S128x128.Idx) (a : Fin 2) :
    ((oCh L t).view.emb x a).val = (if a = 0 then 12800 * wid L + 128 * t.val else 0) + (x a).val := by
  show ((Rect.unit (s := S409600x128) (k0_off3 L t) S128x128.size (k0_off3_inb L t)).emb x a).val = _
  refine (Rect.emb_apply _ _ _).trans ?_
  show k0_off3 L t a + 1 * (x a).val = _
  rw [k0_off3_eq]
  match a with
  | 0 => show 25600 * (L 1).val + 12800 * (L 0).val + 128 * t.val + 1 * (x 0).val = 12800 * (2 * (L 1).val + (L 0).val) + 128 * t.val + (x 0).val; omega
  | 1 => show 0 + 1 * (x 1).val = 0 + (x 1).val; omega

/-! ## The elements of each tile -/

/-- The plane of row numbers of worker `w`. -/
def iSet (w : ℕ) : Finset S32x100x128.Idx := Finset.univ.filter fun x => (x 0).val = w
/-- The result's rows of worker `w`. -/
def oSet (w : ℕ) : Finset S409600x128.Idx := Finset.univ.filter fun y => (y 0).val / 12800 = w

theorem set_iPl (L : grid0.Coords) : (iPl L).view.set = iSet (wid L) := by
  show (((iV).view.slice (Rect.unit (s := S32x100x128) (k0_off1 L) S1x100x128.size (k0_off1_inb L))).reshape S100x128 squeezes_S1x100x128_S100x128.numel_eq).set = _
  rw [View.set_reshape, View.set_slice]
  refine Eq.trans Finset.map_refl ?_
  ext x
  have h1 : (x 1).val < 100 := (x 1).isLt
  have h2 : (x 2).val < 128 := (x 2).isLt
  refine Rect.mem_set_unit.trans ?_
  rw [k0_off1_eq]
  simp only [iSet, Finset.mem_filter, Finset.mem_univ, true_and]
  constructor
  · intro h
    have h0 : wid L ≤ (x 0).val ∧ (x 0).val < wid L + 1 := h 0
    omega
  · intro h a
    match a with
    | 0 => show wid L ≤ (x 0).val ∧ (x 0).val < wid L + 1; omega
    | 1 => show 0 ≤ (x 1).val ∧ (x 1).val < 0 + 100; omega
    | 2 => show 0 ≤ (x 2).val ∧ (x 2).val < 0 + 128; omega

theorem mem_oCh (L : grid0.Coords) (t : Fin k0_t1_loop.trips) (y : S409600x128.Idx) :
    y ∈ (oCh L t).view.set ↔ 12800 * wid L + 128 * t.val ≤ (y 0).val ∧ (y 0).val < 12800 * wid L + 128 * t.val + 128 := by
  have h : (oCh L t).view.set = (Rect.unit (s := S409600x128) (k0_off3 L t) S128x128.size (k0_off3_inb L t)).set := by
    show ((oV).view.slice (Rect.unit (s := S409600x128) (k0_off3 L t) S128x128.size (k0_off3_inb L t))).set = _
    rw [View.set_slice]; exact Finset.map_refl
  have h1 : (y 1).val < 128 := (y 1).isLt
  rw [h]
  refine Rect.mem_set_unit.trans ?_
  rw [k0_off3_eq]
  have e : 25600 * (L 1).val + 12800 * (L 0).val + 128 * t.val = 12800 * wid L + 128 * t.val := by unfold wid; omega
  constructor
  · intro h
    have h0 : 25600 * (L 1).val + 12800 * (L 0).val + 128 * t.val ≤ (y 0).val
      ∧ (y 0).val < 25600 * (L 1).val + 12800 * (L 0).val + 128 * t.val + 128 := h 0
    rwa [e] at h0
  · intro h a
    match a with
    | 0 =>
      show 25600 * (L 1).val + 12800 * (L 0).val + 128 * t.val ≤ (y 0).val
        ∧ (y 0).val < 25600 * (L 1).val + 12800 * (L 0).val + 128 * t.val + 128
      rwa [e]
    | 1 => show 0 ≤ (y 1).val ∧ (y 1).val < 0 + 128; omega

theorem oCh_sub (L : grid0.Coords) (t : Fin k0_t1_loop.trips) : (oCh L t).view.set ⊆ oSet (wid L) := by
  intro y hy
  have h := (mem_oCh L t y).1 hy
  have ht := trip_lt t
  simp only [oSet, Finset.mem_filter, Finset.mem_univ, true_and]
  omega

/-! ## What the gather delivers -/

/-- The result's element `y`: the table's row that word `y 0` of the row numbers (in row-major order) names. -/
def gat {X : Type} (ft : S100001x128.Idx → X) (fi : S32x100x128.Idx → BitVec 32) (y : S409600x128.Idx) : X :=
  ft (ix2 (⟨(fi (ix3 (⟨(y 0).val / 12800, by have h : (y 0).val < 409600 := (y 0).isLt; omega⟩ : Fin 32)
      (⟨(y 0).val / 128 % 100, by omega⟩ : Fin 100) (⟨(y 0).val % 128, by omega⟩ : Fin 128))).toNat % 100001, by omega⟩ : Fin 100001) (y 1 : Fin 128))

/-- The row numbers of worker `w`. -/
def lst (fi : S32x100x128.Idx → BitVec 32) (L : grid0.Coords) (x : S100x128.Idx) : BitVec 32 :=
  fi (ix3 (⟨wid L, wid_lt L⟩ : Fin 32) (x 0 : Fin 100) (x 1 : Fin 128))

/-- The result during the loop: its first `128 * n` rows of the worker's are written, the rest as before. -/
def mix {X : Type} (ft : S100001x128.Idx → X) (fi : S32x100x128.Idx → BitVec 32) (f0 : S409600x128.Idx → X) (L : grid0.Coords) (n : ℕ)
    (y : S409600x128.Idx) : X :=
  if (y 0).val < 12800 * wid L + 128 * n then gat ft fi y else f0 y

theorem read_iPl (L : grid0.Coords) (d : Dev nD) (fi : Buf (Elt F) (iLoc d)) : (iPl L).view.read (Elt F) fi = lst fi L := by
  funext x
  refine ((View.read_apply _ _).trans (cast_eq _ _)).trans ?_
  exact congrArg fi (emb_iPl L x)

theorem read_sRow (t : Fin k0_t1_loop.trips) (fs : S100x128.Idx → BitVec 32) (x : S128.Idx) :
    (sRow t).view.read (Elt F) fs x = fs (ix2 (⟨t.val, trip_lt t⟩ : Fin 100) (x 0 : Fin 128)) := by
  refine ((View.read_apply _ _).trans (cast_eq _ _)).trans ?_
  exact congrArg fs (emb_sRow t x)

theorem sRow_inb (t : Fin k0_t1_loop.trips) (L : grid0.Coords) (fi : S32x100x128.Idx → BitVec 32) (hfi : ∀ j, (fi j).toNat < 100001) (x : S128.Idx) :
    ((sRow t).view.read (Elt F) (lst fi L) x).toNat < S100001x128.size gathers_S100001x128_S128x128.axis := by
  rw [read_sRow]
  exact hfi _

/-- Trip `t`'s gather delivers `gat` at the rows trip `t` writes. -/
theorem gather_apply (t : Fin k0_t1_loop.trips) (L : grid0.Coords) (ft : S100001x128.Idx → Elt F .f32) (fi : S32x100x128.Idx → BitVec 32)
    (hfi : ∀ j, (fi j).toNat < 100001) (hn : S128.numel = S128x128.size gathers_S100001x128_S128x128.axis')
    (hin : ∀ x, ((sRow t).view.read (Elt F) (lst fi L) x).toNat < S100001x128.size gathers_S100001x128_S128x128.axis) (x : S128x128.Idx) :
    SparseCore.gatherPayload (F := F) gathers_S100001x128_S128x128 ((xAll).view.read (Elt F) ft) (SparseCore.rows ((sRow t).view.read (Elt F) (lst fi L)) hn hin) x
      = gat ft fi ((oCh L t).view.emb x) := by
  unfold SparseCore.gatherPayload
  refine ((View.read_apply _ _).trans (cast_eq _ _)).trans ?_
  rw [emb_xAll]
  refine congrArg ft ?_
  have h0 := emb_oCh L t x 0
  have h1 := emb_oCh L t x 1
  rw [if_pos rfl] at h0
  rw [if_neg (by decide)] at h1
  have hx0 : (x 0).val < 128 := (x 0).isLt
  have ht := trip_lt t
  have hw := wid_lt L
  funext a
  match a with
  | 0 =>
    refine (Shape.Gathers.idx_axis gathers_S100001x128_S128x128 _ x).trans ?_
    apply Fin.ext
    show ((sRow t).view.read (Elt F) (lst fi L) (S128.rowMajor.symm _)).toNat = _
    rw [read_sRow]
    show (lst fi L _).toNat = (fi _).toNat % 100001
    rw [Nat.mod_eq_of_lt (hfi _)]
    unfold lst
    refine congrArg (fun j => (fi j).toNat) ?_
    have hk : ∀ k : Fin S128.numel, ((S128.rowMajor.symm k) 0).val = k.val := fun k => by
      rw [← Shape.rowMajor_val_one, Equiv.apply_symm_apply]
    funext b
    apply Fin.ext
    match b with
    | 0 => show wid L = _ / 12800; rw [h0]; omega
    | 1 => show t.val = _ / 128 % 100; rw [h0]; omega
    | 2 =>
      refine (hk _).trans ?_
      show (x 0).val = _ % 128
      rw [h0]; omega
  | 1 =>
    apply Fin.ext
    refine (Shape.Gathers.idx_of_ne gathers_S100001x128_S128x128 _ x 1 (by decide)).trans ?_
    exact (h1.trans (Nat.zero_add _)).symm

/-- Contents that read as the trip's gathered rows are the result after the trip, on the rows the trip writes. -/
theorem mix_write (L : grid0.Coords) (t : Fin k0_t1_loop.trips) (ft : S100001x128.Idx → Elt F .f32) (fi : S32x100x128.Idx → BitVec 32)
    (f0 : S409600x128.Idx → Elt F .f32) (g : S409600x128.Idx → Elt F .f32)
    (hg : ∀ x, (oCh L t).view.read (Elt F) g x = gat ft fi ((oCh L t).view.emb x)) (y : S409600x128.Idx)
    (hy : y ∈ (oCh L t).view.set) : g y = mix ft fi f0 L (t.val + 1) y := by
  have h := (mem_oCh L t y).1 hy
  obtain ⟨x, hx⟩ : ∃ x, (oCh L t).view.emb x = y := by
    simpa [View.set] using hy
  have hw : g ((oCh L t).view.emb x) = gat ft fi ((oCh L t).view.emb x) :=
    (((View.read_apply _ _).trans (cast_eq _ _)).symm.trans (hg x))
  rw [hx] at hw
  rw [hw]
  unfold mix
  rw [if_pos (by omega)]

theorem mix_rest (L : grid0.Coords) (t : Fin k0_t1_loop.trips) {X : Type} (ft : S100001x128.Idx → X) (fi : S32x100x128.Idx → BitVec 32)
    (f0 : S409600x128.Idx → X) (y : S409600x128.Idx) (hy : y ∉ (oCh L t).view.set) :
    mix ft fi f0 L t.val y = mix ft fi f0 L (t.val + 1) y := by
  unfold mix
  rw [mem_oCh] at hy
  by_cases h : (y 0).val < 12800 * wid L + 128 * t.val
  · rw [if_pos h, if_pos (by omega)]
  · rw [if_neg h, if_neg (by omega)]

theorem mix_zero (L : grid0.Coords) {X : Type} (ft : S100001x128.Idx → X) (fi : S32x100x128.Idx → BitVec 32)
    (f0 : S409600x128.Idx → X) (y : S409600x128.Idx) (hy : y ∈ oSet (wid L)) : mix ft fi f0 L 0 y = f0 y := by
  simp only [oSet, Finset.mem_filter, Finset.mem_univ, true_and] at hy
  unfold mix; rw [if_neg (by omega)]

theorem mix_last (L : grid0.Coords) {X : Type} (ft : S100001x128.Idx → X) (fi : S32x100x128.Idx → BitVec 32)
    (f0 : S409600x128.Idx → X) (y : S409600x128.Idx) (hy : y ∈ oSet (wid L)) : mix ft fi f0 L k0_t1_loop.trips y = gat ft fi y := by
  simp only [oSet, Finset.mem_filter, Finset.mem_univ, true_and] at hy
  unfold mix; rw [trips_eq, if_pos (by omega)]

end Cert.Proof.Lstm

end
-- ==== Proof.Body.lean ====
/-
  The TensorCore kernel's body at one grid point, run once per case of its two conditions: the first point (the
  recurrence's state is zeroed first), a middle point, the last point (the three results are stored). Each run is from
  the ten buffers the body touches, whole, to the same, the recurrence's state advanced by one step (`nextH`, `nextC`).
-/
module

public import proofs.«01_k».proof.Proof.Setup
public import proofs.«01_k».proof.Proof.Gen.KernelIdeal.Launch
public import proofs.«01_k».proof.Proof.Gen.KernelIdeal.Points
public import Idealize.ShloMosaic.Lib.Pipeline.Value

@[expose] public section

noncomputable section

namespace Cert.Proof.Lstm

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The contents of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦{fullShare} f
/-- Memref `M`'s buffer on core `c`, held whole at contents that read as `X`. -/
abbrev rd (c : Dev nD) {sp : Space} {S : Shape} {e : EltTy} (M : Memref sig .tc sp S e) (X : S.Idx → Elt F e) : sProp 𝕄 :=
  iprop(∃ f : Bf (F := F) c M, ⌜M.view.read (Elt F) f = X⌝ ∗ pt c M f)

/-! ## One step of the recurrence, as the body computes it -/

/-- The cell state after a step: from the step's inputs `x`, its row numbers `m`, the weights, and the state `h`, `c`. -/
def nextC (x : Vec F S1x2048x128 .f32) (m : Vec F S1x2048x1 .i32) (w : Vec F S128x1024 .f32) (u : Vec F S256x1024 .f32) (b : Vec F S1x1024 .f32)
    (h c : Vec F S2048x256 .f32) : Vec F S2048x256 .f32 :=
  k1_pay1 (k1_pay9 x w h u b c) c (k1_pay12 m)
/-- The hidden state after a step. -/
def nextH (x : Vec F S1x2048x128 .f32) (m : Vec F S1x2048x1 .i32) (w : Vec F S128x1024 .f32) (u : Vec F S256x1024 .f32) (b : Vec F S1x1024 .f32)
    (h c : Vec F S2048x256 .f32) : Vec F S2048x256 .f32 :=
  k1_pay2 (k1_pay10 x w h u b c) (k1_pay11 m) h

/-! ## A whole buffer's loads and stores -/

section Whole

variable {S : Shape} {e : EltTy} {sp : Space} (M : Memref sig .tc sp S e) {off : Fin S.rank → Nat}

/-- A load of the whole buffer reads its contents. -/
theorem load_whole (h : ∀ a, off a = 0) (inb : ∀ a, off a + S.size a ≤ S.size a) (f : M.view.ty.Contents (Elt F)) :
    M.view.readAt (Elt F) (Rect.unit off S.size inb).toLoadRect f = M.view.read (Elt F) f :=
  View.ld_unit_zero (funext h) inb (M.view.read (Elt F) f)

/-- A store of the whole buffer leaves contents that read as what was stored, whatever was stored before. -/
theorem store_whole (h : ∀ a, off a = 0) (inb : ∀ a, off a + S.size a ≤ S.size a) (f : M.view.ty.Contents (Elt F)) (w : S.Idx → Elt F e)
    (L : List (View.Piece (Elt F) S e)) :
    M.view.read (Elt F) (M.view.writes (Elt F) f ((⟨Rect.unit off S.size inb, w⟩ : View.Piece (Elt F) S e) :: L)) = w := by
  obtain rfl := funext h
  funext y
  have e := View.read_writes_cons_emb M.view f (Rect.unit (fun _ => 0) S.size inb) w L y
  have hy : (Rect.unit (fun _ => 0) S.size inb).emb y = y := Rect.emb_whole_apply S y
  rwa [hy] at e

/-- A load of the whole buffer after a store of the whole buffer reads what was stored. -/
theorem load_stored (h : ∀ a, off a = 0) (inb : ∀ a, off a + S.size a ≤ S.size a) (w : S.Idx → Elt F e) :
    M.view.readCov [(⟨Rect.unit off S.size inb, w⟩ : View.Piece (Elt F) S e)] (Rect.unit off S.size inb).toLoadRect = w :=
  View.readCov_unit_zero M.view (funext h) inb w

theorem z2 : ∀ a : Fin 2, (![0, 0] : Fin 2 → ℕ) a = 0 := by decide
theorem z3 : ∀ a : Fin 3, (![0, 0, 0] : Fin 3 → ℕ) a = 0 := by decide

end Whole

/-! ## The body's runs -/

section Run

variable (c : Dev nD) (i : grid1.Coords)
  (M0 : Memref sig .tc .vmem S1x2048x128 .f32) (h0 : M0.IsWhole) (M1 : Memref sig .tc .vmem S1x2048x1 .i32) (h1 : M1.IsWhole)
  (M2 : Memref sig .tc .vmem S128x1024 .f32) (h2 : M2.IsWhole) (M3 : Memref sig .tc .vmem S256x1024 .f32) (h3 : M3.IsWhole)
  (M4 : Memref sig .tc .vmem S1x1024 .f32) (h4 : M4.IsWhole) (M5 : Memref sig .tc .vmem S1024x256 .f32) (h5 : M5.IsWhole)
  (M6 : Memref sig .tc .vmem S1024x256 .f32) (h6 : M6.IsWhole) (M7 : Memref sig .tc .vmem S1024x1 .f32) (h7 : M7.IsWhole)
  (M8 : Memref sig .tc .vmem S2048x256 .f32) (h8 : M8.IsWhole) (M9 : Memref sig .tc .vmem S2048x256 .f32) (h9 : M9.IsWhole)
  (f0 : Bf (F := F) c M0) (f1 : Bf (F := F) c M1) (f2 : Bf (F := F) c M2) (f3 : Bf (F := F) c M3) (f4 : Bf (F := F) c M4)
  (f5 : Bf (F := F) c M5) (f6 : Bf (F := F) c M6) (f7 : Bf (F := F) c M7) (f8 : Bf (F := F) c M8) (f9 : Bf (F := F) c M9)

/-- The first condition: the point is the first. -/
abbrev atFirst (i : grid1.Coords) : Prop :=
  Scalar.cmpi .ne (Scalar.extui (Scalar.cmpi .eq (BitVec.ofNat 32 (i 0).val) 0#32) : BitVec 32) 0#32 = 1#1

/-- The first point: the state is zeroed, then advanced. -/
theorem body_first (k1_h1 : atFirst i) (k1_h2 : ¬ k1_cond2 i = 1#1) (E : Set ℕ) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9
        ∗ (iprop(pt c M0 f0 ∗ pt c M1 f1 ∗ pt c M2 f2 ∗ pt c M3 f3 ∗ pt c M4 f4
          ∗ pt c M5 f5 ∗ pt c M6 f6 ∗ pt c M7 f7
          ∗ rd c M8 (nextH (M0.view.read (Elt F) f0) (M1.view.read (Elt F) f1) (M2.view.read (Elt F) f2) (M3.view.read (Elt F) f3) (M4.view.read (Elt F) f4)
            k1_pay6 k1_pay7)
          ∗ rd c M9 (nextC (M0.view.read (Elt F) f0) (M1.view.read (Elt F) f1) (M2.view.read (Elt F) f2) (M3.view.read (Elt F) f3) (M4.view.read (Elt F) f4)
            k1_pay6 k1_pay7)) -∗ Q ⟨⟩))
      ⊢ wp frame (wpE (defs₀ (F := F)) Variants.none c none) E (cc1_body i M0 h0 M1 h1 M2 h2 M3 h3 M4 h4 M5 h5 M6 h6 M7 h7 M8 h8 M9 h9) Q := by
  simp only [cc1_body_eq_skeleton]; unfold cc1_body_skel
  simp only [k1_part1_eq_skeleton]; unfold k1_part1_skel
  iintro ⟨H0, H1, H2, H3, H4, H5, H6, H7, H8, H9, Hk⟩
  sl_exec!
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; (· iexact H8)
    ipureintro
    have e1 : body_first.sl.v7 (F := F) M8 = k1_pay6 := load_stored M8 z2 _ _
    have e2 : body_first.sl.v23 (F := F) M9 = k1_pay7 := load_stored M9 z2 _ _
    have e3 : body_first.sl.v40 (F := F) M8 = k1_pay6 := load_stored M8 z2 _ _
    refine (store_whole M8 z2 _ _ _ _).trans ?_
    simp only [load_whole M0 z3, load_whole M1 z3, load_whole M2 z2, load_whole M3 z2, load_whole M4 z2, e1, e2, e3]
    rfl
  iexists _; isplitr; swap; (· iexact H9)
  ipureintro
  have e1 : body_first.sl.v7 (F := F) M8 = k1_pay6 := load_stored M8 z2 _ _
  have e2 : body_first.sl.v23 (F := F) M9 = k1_pay7 := load_stored M9 z2 _ _
  refine (store_whole M9 z2 _ _ _ _).trans ?_
  simp only [load_whole M0 z3, load_whole M1 z3, load_whole M2 z2, load_whole M3 z2, load_whole M4 z2, e1, e2]
  rfl

/-- A middle point: the state is advanced. -/
theorem body_mid (k1_h1 : ¬ atFirst i) (k1_h2 : ¬ k1_cond2 i = 1#1) (E : Set ℕ) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9
        ∗ (iprop(pt c M0 f0 ∗ pt c M1 f1 ∗ pt c M2 f2 ∗ pt c M3 f3 ∗ pt c M4 f4
          ∗ pt c M5 f5 ∗ pt c M6 f6 ∗ pt c M7 f7
          ∗ rd c M8 (nextH (M0.view.read (Elt F) f0) (M1.view.read (Elt F) f1) (M2.view.read (Elt F) f2) (M3.view.read (Elt F) f3) (M4.view.read (Elt F) f4)
            (M8.view.read (Elt F) f8) (M9.view.read (Elt F) f9))
          ∗ rd c M9 (nextC (M0.view.read (Elt F) f0) (M1.view.read (Elt F) f1) (M2.view.read (Elt F) f2) (M3.view.read (Elt F) f3) (M4.view.read (Elt F) f4)
            (M8.view.read (Elt F) f8) (M9.view.read (Elt F) f9))) -∗ Q ⟨⟩))
      ⊢ wp frame (wpE (defs₀ (F := F)) Variants.none c none) E (cc1_body i M0 h0 M1 h1 M2 h2 M3 h3 M4 h4 M5 h5 M6 h6 M7 h7 M8 h8 M9 h9) Q := by
  simp only [cc1_body_eq_skeleton]; unfold cc1_body_skel
  simp only [k1_part1_eq_skeleton]; unfold k1_part1_skel
  iintro ⟨H0, H1, H2, H3, H4, H5, H6, H7, H8, H9, Hk⟩
  sl_exec!
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitr; swap; (· iexact H8)
    ipureintro
    refine (store_whole M8 z2 _ _ _ _).trans ?_
    simp only [load_whole M0 z3, load_whole M1 z3, load_whole M2 z2, load_whole M3 z2, load_whole M4 z2, load_whole M8 z2, load_whole M9 z2]
    rfl
  iexists _; isplitr; swap; (· iexact H9)
  ipureintro
  refine (store_whole M9 z2 _ _ _ _).trans ?_
  simp only [load_whole M0 z3, load_whole M1 z3, load_whole M2 z2, load_whole M3 z2, load_whole M4 z2, load_whole M8 z2, load_whole M9 z2]
  rfl

/-- The last point: the state is advanced, and the results are stored from the new cell state. -/
theorem body_last (k1_h1 : ¬ atFirst i) (k1_h2 : k1_cond2 i = 1#1) (E : Set ℕ) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9
        ∗ (iprop(pt c M0 f0 ∗ pt c M1 f1 ∗ pt c M2 f2 ∗ pt c M3 f3 ∗ pt c M4 f4
          ∗ rd c M5 (k1_pay3 (nextC (M0.view.read (Elt F) f0) (M1.view.read (Elt F) f1) (M2.view.read (Elt F) f2) (M3.view.read (Elt F) f3) (M4.view.read (Elt F) f4)
            (M8.view.read (Elt F) f8) (M9.view.read (Elt F) f9)))
          ∗ rd c M6 (k1_pay4 (nextC (M0.view.read (Elt F) f0) (M1.view.read (Elt F) f1) (M2.view.read (Elt F) f2) (M3.view.read (Elt F) f3) (M4.view.read (Elt F) f4)
            (M8.view.read (Elt F) f8) (M9.view.read (Elt F) f9)))
          ∗ rd c M7 (k1_pay5 (nextC (M0.view.read (Elt F) f0) (M1.view.read (Elt F) f1) (M2.view.read (Elt F) f2) (M3.view.read (Elt F) f3) (M4.view.read (Elt F) f4)
            (M8.view.read (Elt F) f8) (M9.view.read (Elt F) f9)))
          ∗ rd c M8 (nextH (M0.view.read (Elt F) f0) (M1.view.read (Elt F) f1) (M2.view.read (Elt F) f2) (M3.view.read (Elt F) f3) (M4.view.read (Elt F) f4)
            (M8.view.read (Elt F) f8) (M9.view.read (Elt F) f9))
          ∗ rd c M9 (nextC (M0.view.read (Elt F) f0) (M1.view.read (Elt F) f1) (M2.view.read (Elt F) f2) (M3.view.read (Elt F) f3) (M4.view.read (Elt F) f4)
            (M8.view.read (Elt F) f8) (M9.view.read (Elt F) f9))) -∗ Q ⟨⟩))
      ⊢ wp frame (wpE (defs₀ (F := F)) Variants.none c none) E (cc1_body i M0 h0 M1 h1 M2 h2 M3 h3 M4 h4 M5 h5 M6 h6 M7 h7 M8 h8 M9 h9) Q := by
  simp only [cc1_body_eq_skeleton]; unfold cc1_body_skel
  simp only [k1_part1_eq_skeleton]; unfold k1_part1_skel
  iintro ⟨H0, H1, H2, H3, H4, H5, H6, H7, H8, H9, Hk⟩
  sl_exec!
  sl_step
  iapply Hk
  isplitl [H0]; · iexact H0
  isplitl [H1]; · iexact H1
  isplitl [H2]; · iexact H2
  isplitl [H3]; · iexact H3
  isplitl [H4]; · iexact H4
  isplitl [H5]
  · iexists _; isplitr; swap; (· iexact H5)
    ipureintro
    refine (store_whole M5 z2 _ _ _ _).trans (congrArg k1_pay3 ((load_stored M9 z2 _ _).trans ?_))
    simp only [load_whole M0 z3, load_whole M1 z3, load_whole M2 z2, load_whole M3 z2, load_whole M4 z2, load_whole M8 z2, load_whole M9 z2]
    rfl
  isplitl [H6]
  · iexists _; isplitr; swap; (· iexact H6)
    ipureintro
    refine (store_whole M6 z2 _ _ _ _).trans (congrArg k1_pay4 ((load_stored M9 z2 _ _).trans ?_))
    simp only [load_whole M0 z3, load_whole M1 z3, load_whole M2 z2, load_whole M3 z2, load_whole M4 z2, load_whole M8 z2, load_whole M9 z2]
    rfl
  isplitl [H7]
  · iexists _; isplitr; swap; (· iexact H7)
    ipureintro
    refine (store_whole M7 z2 _ _ _ _).trans (congrArg k1_pay5 ((load_stored M9 z2 _ _).trans ?_))
    simp only [load_whole M0 z3, load_whole M1 z3, load_whole M2 z2, load_whole M3 z2, load_whole M4 z2, load_whole M8 z2, load_whole M9 z2]
    rfl
  isplitl [H8]
  · iexists _; isplitr; swap; (· iexact H8)
    ipureintro
    refine (store_whole M8 z2 _ _ _ _).trans ?_
    simp only [load_whole M0 z3, load_whole M1 z3, load_whole M2 z2, load_whole M3 z2, load_whole M4 z2, load_whole M8 z2, load_whole M9 z2]
    rfl
  iexists _; isplitr; swap; (· iexact H9)
  ipureintro
  refine (store_whole M9 z2 _ _ _ _).trans ?_
  simp only [load_whole M0 z3, load_whole M1 z3, load_whole M2 z2, load_whole M3 z2, load_whole M4 z2, load_whole M8 z2, load_whole M9 z2]
  rfl

/-- The first point. From buffers that read as `X0`, …: every input handed back as it was. -/
theorem step_first (k1_h1 : atFirst i) (k1_h2 : ¬ k1_cond2 i = 1#1) (X0 : Vec F S1x2048x128 .f32) (X1 : Vec F S1x2048x1 .i32) (X2 : Vec F S128x1024 .f32)
    (X3 : Vec F S256x1024 .f32) (X4 : Vec F S1x1024 .f32) (X5 X6 : Vec F S1024x256 .f32) (X7 : Vec F S1024x1 .f32) (G : sProp 𝕄) :
    iprop(((∃ f, pt c M8 f) ∗ (∃ f, pt c M9 f)) ∗ rd c M0 X0 ∗ rd c M1 X1 ∗ rd c M2 X2 ∗ rd c M3 X3 ∗ rd c M4 X4 ∗ rd c M5 X5 ∗ rd c M6 X6 ∗ rd c M7 X7 ∗ G)
      ⊢ wp frame (wpE (defs₀ (F := F)) Variants.none c none) Set.univ (cc1_body i M0 h0 M1 h1 M2 h2 M3 h3 M4 h4 M5 h5 M6 h6 M7 h7 M8 h8 M9 h9) fun _ =>
        iprop((rd c M8 (nextH X0 X1 X2 X3 X4 k1_pay6 k1_pay7) ∗ rd c M9 (nextC X0 X1 X2 X3 X4 k1_pay6 k1_pay7)) ∗ G ∗ rd c M0 X0 ∗ rd c M1 X1 ∗ rd c M2 X2 ∗ rd c M3 X3 ∗ rd c M4 X4 ∗ rd c M5 X5 ∗ rd c M6 X6 ∗ rd c M7 X7) := by
  iintro ⟨⟨⟨%f8, H8⟩, ⟨%f9, H9⟩⟩, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, HG⟩
  subst e0 e1 e2 e3 e4 e5 e6 e7
  iapply (body_first c i M0 h0 M1 h1 M2 h2 M3 h3 M4 h4 M5 h5 M6 h6 M7 h7 M8 h8 M9 h9 f0 f1 f2 f3 f4 f5 f6 f7 f8 f9 k1_h1 k1_h2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [H8 H9]
  · isplitl [H8]; · iexact H8
    iexact H9
  isplitl [HG]; · iexact HG
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  iexists f7; isplitr; (· ipureintro; rfl); iexact H7

/-- A middle point. From buffers that read as `X0`, …: every input handed back as it was. -/
theorem step_mid (k1_h1 : ¬ atFirst i) (k1_h2 : ¬ k1_cond2 i = 1#1) (X0 : Vec F S1x2048x128 .f32) (X1 : Vec F S1x2048x1 .i32) (X2 : Vec F S128x1024 .f32)
    (X3 : Vec F S256x1024 .f32) (X4 : Vec F S1x1024 .f32) (X5 X6 : Vec F S1024x256 .f32) (X7 : Vec F S1024x1 .f32) (Hs Cs : Vec F S2048x256 .f32) (G : sProp 𝕄) :
    iprop((rd c M8 Hs ∗ rd c M9 Cs) ∗ rd c M0 X0 ∗ rd c M1 X1 ∗ rd c M2 X2 ∗ rd c M3 X3 ∗ rd c M4 X4 ∗ rd c M5 X5 ∗ rd c M6 X6 ∗ rd c M7 X7 ∗ G)
      ⊢ wp frame (wpE (defs₀ (F := F)) Variants.none c none) Set.univ (cc1_body i M0 h0 M1 h1 M2 h2 M3 h3 M4 h4 M5 h5 M6 h6 M7 h7 M8 h8 M9 h9) fun _ =>
        iprop((rd c M8 (nextH X0 X1 X2 X3 X4 Hs Cs) ∗ rd c M9 (nextC X0 X1 X2 X3 X4 Hs Cs)) ∗ G ∗ rd c M0 X0 ∗ rd c M1 X1 ∗ rd c M2 X2 ∗ rd c M3 X3 ∗ rd c M4 X4 ∗ rd c M5 X5 ∗ rd c M6 X6 ∗ rd c M7 X7) := by
  iintro ⟨⟨⟨%f8, %e8, H8⟩, ⟨%f9, %e9, H9⟩⟩, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, HG⟩
  subst e0 e1 e2 e3 e4 e5 e6 e7 e8 e9
  iapply (body_mid c i M0 h0 M1 h1 M2 h2 M3 h3 M4 h4 M5 h5 M6 h6 M7 h7 M8 h8 M9 h9 f0 f1 f2 f3 f4 f5 f6 f7 f8 f9 k1_h1 k1_h2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [H8 H9]
  · isplitl [H8]; · iexact H8
    iexact H9
  isplitl [HG]; · iexact HG
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  iexists f7; isplitr; (· ipureintro; rfl); iexact H7

/-- The last point. From buffers that read as `X0`, …: every input handed back as it was. -/
theorem step_last (k1_h1 : ¬ atFirst i) (k1_h2 : k1_cond2 i = 1#1) (X0 : Vec F S1x2048x128 .f32) (X1 : Vec F S1x2048x1 .i32) (X2 : Vec F S128x1024 .f32)
    (X3 : Vec F S256x1024 .f32) (X4 : Vec F S1x1024 .f32) (X5 X6 : Vec F S1024x256 .f32) (X7 : Vec F S1024x1 .f32) (Hs Cs : Vec F S2048x256 .f32) (G : sProp 𝕄) :
    iprop((rd c M8 Hs ∗ rd c M9 Cs) ∗ rd c M0 X0 ∗ rd c M1 X1 ∗ rd c M2 X2 ∗ rd c M3 X3 ∗ rd c M4 X4 ∗ rd c M5 X5 ∗ rd c M6 X6 ∗ rd c M7 X7 ∗ G)
      ⊢ wp frame (wpE (defs₀ (F := F)) Variants.none c none) Set.univ (cc1_body i M0 h0 M1 h1 M2 h2 M3 h3 M4 h4 M5 h5 M6 h6 M7 h7 M8 h8 M9 h9) fun _ =>
        iprop((rd c M8 (nextH X0 X1 X2 X3 X4 Hs Cs) ∗ rd c M9 (nextC X0 X1 X2 X3 X4 Hs Cs)) ∗ G ∗ rd c M0 X0 ∗ rd c M1 X1 ∗ rd c M2 X2 ∗ rd c M3 X3 ∗ rd c M4 X4 ∗ rd c M5 (k1_pay3 (nextC X0 X1 X2 X3 X4 Hs Cs)) ∗ rd c M6 (k1_pay4 (nextC X0 X1 X2 X3 X4 Hs Cs)) ∗ rd c M7 (k1_pay5 (nextC X0 X1 X2 X3 X4 Hs Cs))) := by
  iintro ⟨⟨⟨%f8, %e8, H8⟩, ⟨%f9, %e9, H9⟩⟩, ⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, HG⟩
  subst e0 e1 e2 e3 e4 e5 e6 e7 e8 e9
  iapply (body_last c i M0 h0 M1 h1 M2 h2 M3 h3 M4 h4 M5 h5 M6 h6 M7 h7 M8 h8 M9 h9 f0 f1 f2 f3 f4 f5 f6 f7 f8 f9 k1_h1 k1_h2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, H5, H6, H7, H8, H9⟩
  isplitl [H8 H9]
  · isplitl [H8]; · iexact H8
    iexact H9
  isplitl [HG]; · iexact HG
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexact H5
  isplitl [H6]; · iexact H6
  iexact H7

end Run

end Cert.Proof.Lstm

end
-- ==== Proof.Region.lean ====
/-
  The TensorCore region: the recurrence over the 200 points as a function of the arrays at entry, the proof data
  (before point `n` the two scratch buffers hold the state after `n` steps), the body obligation from the three runs of
  the body, and the region over the thread state "every unscoped buffer at a valuation".
-/
module

public import proofs.«01_k».proof.Proof.Body
public import Idealize.ShloMosaic.Lib.Pipeline.Regions
public import Idealize.ShloMosaic.Lib.Pipeline.FrameBody
public import Idealize.ShloMosaic.Lib.SparseCore.Threads

@[expose] public section

noncomputable section

namespace Cert.Proof.Lstm

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The recurrence -/

/-- Step `n`'s 2048 embedded rows, out of the array of all of them. -/
def xAt (x : Vec F S200x2048x128 .f32) (n : ℕ) : Vec F S1x2048x128 .f32 := fun y =>
  x (ix3 (⟨n % 200, Nat.mod_lt _ (by decide)⟩ : Fin 200) (y 1 : Fin 2048) (y 2 : Fin 128))
/-- Step `n`'s 2048 row numbers. -/
def mAt (m : Vec F S200x2048x1 .i32) (n : ℕ) : Vec F S1x2048x1 .i32 := fun y =>
  m (ix3 (⟨n % 200, Nat.mod_lt _ (by decide)⟩ : Fin 200) (y 1 : Fin 2048) (y 2 : Fin 1))

/-- The state (hidden, cell) after `n` steps, from zero. -/
def state (x : Vec F S200x2048x128 .f32) (m : Vec F S200x2048x1 .i32) (w : Vec F S128x1024 .f32) (u : Vec F S256x1024 .f32) (b : Vec F S1x1024 .f32) :
    ℕ → Vec F S2048x256 .f32 × Vec F S2048x256 .f32
  | 0 => (k1_pay6, k1_pay7)
  | n + 1 =>
    (nextH (xAt x n) (mAt m n) w u b (state x m w u b n).1 (state x m w u b n).2,
      nextC (xAt x n) (mAt m n) w u b (state x m w u b n).1 (state x m w u b n).2)

theorem state_zero (x : Vec F S200x2048x128 .f32) (m : Vec F S200x2048x1 .i32) (w : Vec F S128x1024 .f32) (u : Vec F S256x1024 .f32) (b : Vec F S1x1024 .f32) :
    state x m w u b 0 = (k1_pay6, k1_pay7) := rfl

/-- A step's state, from the state before it. -/
theorem state_succ (x : Vec F S200x2048x128 .f32) (m : Vec F S200x2048x1 .i32) (w : Vec F S128x1024 .f32) (u : Vec F S256x1024 .f32) (b : Vec F S1x1024 .f32) (n : ℕ) :
    state x m w u b (n + 1) =
      (nextH (xAt x n) (mAt m n) w u b (state x m w u b n).1 (state x m w u b n).2,
        nextC (xAt x n) (mAt m n) w u b (state x m w u b n).1 (state x m w u b n).2) := rfl

attribute [irreducible] state

/-! ## The conditions and the blocks at a point -/

theorem pt_lt (t : Fin cfg1.N) : t.val < 200 := lt_of_lt_of_eq t.isLt N_1

theorem coord_val (t : Fin cfg1.N) : (cfg1.grid.coords t 0).val = t.val := by
  have h := Pipeline.Grid.coords_val (G := grid1) t 0 (S := 1) (B := 200) (by decide) rfl
  have := pt_lt t
  show (grid1.coords t 0).val = t.val
  omega

theorem atFirst_iff (t : Fin cfg1.N) : atFirst (cfg1.grid.coords t) ↔ t.val = 0 := by
  have key : ∀ n : Fin 200, Scalar.cmpi .ne (Scalar.extui (Scalar.cmpi .eq (BitVec.ofNat 32 n.val) 0#32) : BitVec 32) 0#32 = 1#1 ↔ n.val = 0 := by
    decide +kernel
  have h := key ⟨t.val, pt_lt t⟩
  unfold atFirst
  rw [coord_val]
  exact h

theorem atLast_iff (t : Fin cfg1.N) : k1_cond2 (cfg1.grid.coords t) = 1#1 ↔ t.val = 199 := by
  have key : ∀ n : Fin 200, Scalar.cmpi .ne (Scalar.extui (Scalar.cmpi .eq (BitVec.ofNat 32 n.val) 199#32) : BitVec 32) 0#32 = 1#1 ↔ n.val = 199 := by
    decide +kernel
  have h := key ⟨t.val, pt_lt t⟩
  unfold k1_cond2
  simp only []
  rw [coord_val]
  exact h

/-! ## A staging buffer, held whole -/

/-- Owning a whole buffer at contents `X` is holding it at contents that read as `X`. -/
theorem owns_rd (c : Dev nD) {sp : Space} {S : Shape} {e : EltTy} {M : Memref sig .tc sp S e} (hw : M.IsWhole) (X : S.Idx → Elt F e) :
    (owns (c : Thread nD τ) M fullShare X : sProp 𝕄) = rd c M X := by
  obtain ⟨b, hsp, hsh, he, h⟩ := hw
  subst hsp hsh he
  cases h
  exact owns_whole_eq (c : Thread nD τ) b fullShare X

/-! ## The proof data, at an entry valuation -/

variable (V : (c : Dev nD) → (b : Ref sig .tc) → Buf (Elt F) ((c : Thread nD τ).loc b))

/-- The state after `n` steps from the arrays at the entry valuation. -/
abbrev stN (c : Dev nD) (n : ℕ) : Vec F S2048x256 .f32 × Vec F S2048x256 .f32 :=
  state (F := F) (V c main_v4) (V c main_v5) (V c main_arg3) (V c main_arg4) (V c main_v6) n

theorem blk0 (c : Dev nD) (t : Fin cfg1.N) : ((cfg1.win 0).blk t).view.read (Elt F) (V c main_v4) = xAt (F := F) (V c main_v4) t.val := by
  funext y
  have ht := pt_lt t
  have hc := coord_val t
  refine (View.read_apply _ _).trans ?_
  show V c main_v4 _ = V c main_v4 _
  congr 1
  funext a
  refine Fin.ext ?_
  have y0 : (y 0).val < 1 := (y 0).isLt
  refine (Rect.emb_apply _ _ _).trans ?_
  match a with
  | 0 =>
    show (BitVec.ofNat 32 (cfg1.grid.coords t 0).val).toNat * 1 + 1 * (y 0).val = t.val % 200
    rw [hc, BitVec.toNat_ofNat]; omega
  | 1 => show 0 * 2048 + 1 * (y 1).val = (y 1).val; omega
  | 2 => show 0 * 128 + 1 * (y 2).val = (y 2).val; omega

theorem blk1 (c : Dev nD) (t : Fin cfg1.N) : ((cfg1.win 1).blk t).view.read (Elt F) (V c main_v5) = mAt (F := F) (V c main_v5) t.val := by
  funext y
  have ht := pt_lt t
  have hc := coord_val t
  refine (View.read_apply _ _).trans ?_
  show V c main_v5 _ = V c main_v5 _
  congr 1
  funext a
  refine Fin.ext ?_
  have y0 : (y 0).val < 1 := (y 0).isLt
  refine (Rect.emb_apply _ _ _).trans ?_
  match a with
  | 0 =>
    show (BitVec.ofNat 32 (cfg1.grid.coords t 0).val).toNat * 1 + 1 * (y 0).val = t.val % 200
    rw [hc, BitVec.toNat_ofNat]; omega
  | 1 => show 0 * 2048 + 1 * (y 1).val = (y 1).val; omega
  | 2 => show 0 * 1 + 1 * (y 2).val = (y 2).val; omega

theorem blk2 (c : Dev nD) (t : Fin cfg1.N) : ((cfg1.win 2).blk t).view.read (Elt F) (V c main_arg3) = V c main_arg3 := by
  funext y
  refine (View.read_apply _ _).trans ?_
  show V c main_arg3 _ = V c main_arg3 _
  congr 1
  funext a
  refine Fin.ext ((Rect.emb_apply _ _ _).trans ?_)
  match a with
  | 0 => show 0 * 128 + 1 * (y 0).val = (y 0).val; omega
  | 1 => show 0 * 1024 + 1 * (y 1).val = (y 1).val; omega

theorem blk3 (c : Dev nD) (t : Fin cfg1.N) : ((cfg1.win 3).blk t).view.read (Elt F) (V c main_arg4) = V c main_arg4 := by
  funext y
  refine (View.read_apply _ _).trans ?_
  show V c main_arg4 _ = V c main_arg4 _
  congr 1
  funext a
  refine Fin.ext ((Rect.emb_apply _ _ _).trans ?_)
  match a with
  | 0 => show 0 * 256 + 1 * (y 0).val = (y 0).val; omega
  | 1 => show 0 * 1024 + 1 * (y 1).val = (y 1).val; omega

theorem blk4 (c : Dev nD) (t : Fin cfg1.N) : ((cfg1.win 4).blk t).view.read (Elt F) (V c main_v6) = V c main_v6 := by
  funext y
  refine (View.read_apply _ _).trans ?_
  show V c main_v6 _ = V c main_v6 _
  congr 1
  funext a
  refine Fin.ext ((Rect.emb_apply _ _ _).trans ?_)
  match a with
  | 0 => show 0 * 1 + 1 * (y 0).val = (y 0).val; omega
  | 1 => show 0 * 1024 + 1 * (y 1).val = (y 1).val; omega

/-- The two scratch buffers before point `n`: at something before the first, the state after `n` steps before a later one. -/
def PhiS (c : Dev nD) : ℕ → sProp 𝕄
  | 0 => iprop((∃ f, pt c (Memref.whole cc1_scratch0) f) ∗ ∃ f, pt c (Memref.whole cc1_scratch1) f)
  | n + 1 => iprop(rd c (Memref.whole cc1_scratch0) (stN V c (n + 1)).1 ∗ rd c (Memref.whole cc1_scratch1) (stN V c (n + 1)).2)

/-- The (cell, index) pairs at the level of the handshakes' waits of the one SparseCore call. -/
def lowPairs (c : Dev nD) : Set (SemLoc sig × HIx 1) := {p | (K (F := F)).lev ((c : Thread nD τ), p.1) p.2 ≤ 8}

/-- The proof data of the region: the arrays at the entry valuation; after the body the inputs' buffers as fetched and
    the results' at the last state's; the scratch at the state. -/
def dat (c : Dev nD) : Dat τ (Elt F) (HIx 1) ℕ UU ℕ cfg1 c where
  A w := V c (Pipeline.arrRef spec1 w)
  after w t := match w with
    | ⟨0, _⟩ => xAt (F := F) (V c main_v4) t.val
    | ⟨1, _⟩ => mAt (F := F) (V c main_v5) t.val
    | ⟨2, _⟩ => V c main_arg3
    | ⟨3, _⟩ => V c main_arg4
    | ⟨4, _⟩ => V c main_v6
    | ⟨5, _⟩ => k1_pay3 (stN V c 200).2
    | ⟨6, _⟩ => k1_pay4 (stN V c 200).2
    | ⟨7, _⟩ => k1_pay5 (stN V c 200).2
  Φ t := PhiS V c t.val
  q _ := fullShare
  owed _ := 0
  recorded _ := lowPairs (F := F) c

theorem before0 (c : Dev nD) (t : Fin cfg1.N) (d : (cfg1.win 0).block.Idx → Elt F (cfg1.win 0).elt) :
    (dat V c).before 0 t d = xAt (F := F) (V c main_v4) t.val :=
  ((dat V c).before_in_eq_fetched 0 rfl (fun _ => rfl) (fun _ _ _ => rfl) (fun t => (blk0 V c t).symm) t d).trans (blk0 V c t)
theorem before1 (c : Dev nD) (t : Fin cfg1.N) (d : (cfg1.win 1).block.Idx → Elt F (cfg1.win 1).elt) :
    (dat V c).before 1 t d = mAt (F := F) (V c main_v5) t.val :=
  ((dat V c).before_in_eq_fetched 1 rfl (fun _ => rfl) (fun _ _ _ => rfl) (fun t => (blk1 V c t).symm) t d).trans (blk1 V c t)
theorem before2 (c : Dev nD) (t : Fin cfg1.N) (d : (cfg1.win 2).block.Idx → Elt F (cfg1.win 2).elt) :
    (dat V c).before 2 t d = V c main_arg3 :=
  ((dat V c).before_in_eq_fetched 2 rfl (fun _ => rfl) (fun _ _ _ => rfl) (fun t => (blk2 V c t).symm) t d).trans (blk2 V c t)
theorem before3 (c : Dev nD) (t : Fin cfg1.N) (d : (cfg1.win 3).block.Idx → Elt F (cfg1.win 3).elt) :
    (dat V c).before 3 t d = V c main_arg4 :=
  ((dat V c).before_in_eq_fetched 3 rfl (fun _ => rfl) (fun _ _ _ => rfl) (fun t => (blk3 V c t).symm) t d).trans (blk3 V c t)
theorem before4 (c : Dev nD) (t : Fin cfg1.N) (d : (cfg1.win 4).block.Idx → Elt F (cfg1.win 4).elt) :
    (dat V c).before 4 t d = V c main_v6 :=
  ((dat V c).before_in_eq_fetched 4 rfl (fun _ => rfl) (fun _ _ _ => rfl) (fun t => (blk4 V c t).symm) t d).trans (blk4 V c t)

/-! ## The body obligation -/

theorem idle_of (t : Fin cfg1.N) (ht : t.val ≠ 199) : (!(k1_cond2 (cfg1.grid.coords t) == 1#1)) = true := by
  have h : ¬ k1_cond2 (cfg1.grid.coords t) = 1#1 := fun h => ht ((atLast_iff t).mp h)
  simpa using h
theorem live_of (t : Fin cfg1.N) (ht : t.val = 199) : (!(k1_cond2 (cfg1.grid.coords t) == 1#1)) = false := by
  have h : k1_cond2 (cfg1.grid.coords t) = 1#1 := (atLast_iff t).mpr ht
  simpa using h

theorem noflush5 (t : Fin cfg1.N) (ht : t.val ≠ 199) : (cfg1.win 5).flush t = false := by
  have h := flush1_5 t; have := pt_lt t
  exact Bool.eq_false_iff.mpr fun e => ht (by have := h.mp e; omega)
theorem noflush6 (t : Fin cfg1.N) (ht : t.val ≠ 199) : (cfg1.win 6).flush t = false := by
  have h := flush1_6 t; have := pt_lt t
  exact Bool.eq_false_iff.mpr fun e => ht (by have := h.mp e; omega)
theorem noflush7 (t : Fin cfg1.N) (ht : t.val ≠ 199) : (cfg1.win 7).flush t = false := by
  have h := flush1_7 t; have := pt_lt t
  exact Bool.eq_false_iff.mpr fun e => ht (by have := h.mp e; omega)

/-- A result's buffer at a point before the last is handed back as found. -/
theorem leaves_idle5 (c : Dev nD) (t : Fin cfg1.N) (ht : t.val ≠ 199) :
    (dat V c).leavesExact 5 t = iprop(∃ d, owns (c : Thread nD τ) (st1_5 t) fullShare ((dat V c).before 5 t d)) :=
  (dat V c).leavesExact_idle 5 t (idle_of t ht) (noflush5 t ht)
theorem leaves_idle6 (c : Dev nD) (t : Fin cfg1.N) (ht : t.val ≠ 199) :
    (dat V c).leavesExact 6 t = iprop(∃ d, owns (c : Thread nD τ) (st1_6 t) fullShare ((dat V c).before 6 t d)) :=
  (dat V c).leavesExact_idle 6 t (idle_of t ht) (noflush6 t ht)
theorem leaves_idle7 (c : Dev nD) (t : Fin cfg1.N) (ht : t.val ≠ 199) :
    (dat V c).leavesExact 7 t = iprop(∃ d, owns (c : Thread nD τ) (st1_7 t) fullShare ((dat V c).before 7 t d)) :=
  (dat V c).leavesExact_idle 7 t (idle_of t ht) (noflush7 t ht)
/-- At the last it holds its block of the result. -/
theorem leaves_last5 (c : Dev nD) (t : Fin cfg1.N) (ht : t.val = 199) :
    (dat V c).leavesExact 5 t = owns (c : Thread nD τ) (st1_5 t) fullShare (k1_pay3 (stN V c 200).2) := by
  unfold Dat.leavesExact; rw [show cfg1.idle 5 (cfg1.grid.coords t) = false from live_of t ht]; rfl
theorem leaves_last6 (c : Dev nD) (t : Fin cfg1.N) (ht : t.val = 199) :
    (dat V c).leavesExact 6 t = owns (c : Thread nD τ) (st1_6 t) fullShare (k1_pay4 (stN V c 200).2) := by
  unfold Dat.leavesExact; rw [show cfg1.idle 6 (cfg1.grid.coords t) = false from live_of t ht]; rfl
theorem leaves_last7 (c : Dev nD) (t : Fin cfg1.N) (ht : t.val = 199) :
    (dat V c).leavesExact 7 t = owns (c : Thread nD τ) (st1_7 t) fullShare (k1_pay5 (stN V c 200).2) := by
  unfold Dat.leavesExact; rw [show cfg1.idle 7 (cfg1.grid.coords t) = false from live_of t ht]; rfl

/-- The ten buffers taken apart, and put back, at a point: what a case of the obligation is proved from. -/
theorem obl_frame (c : Dev nD) (t : Fin cfg1.N)
    (h : ∀ (G : sProp 𝕄) d5 d6 d7, iprop(PhiS V c t.val
        ∗ rd c (st1_0 t) (xAt (F := F) (V c main_v4) t.val) ∗ rd c (st1_1 t) (mAt (F := F) (V c main_v5) t.val)
        ∗ rd c (st1_2 t) (V c main_arg3) ∗ rd c (st1_3 t) (V c main_arg4) ∗ rd c (st1_4 t) (V c main_v6)
        ∗ rd c (st1_5 t) ((dat V c).before 5 t d5)
        ∗ rd c (st1_6 t) ((dat V c).before 6 t d6)
        ∗ rd c (st1_7 t) ((dat V c).before 7 t d7)
        ∗ G)
      ⊢ wp frame (wpE (defs₀ (F := F)) 𝒱₀ c none) Set.univ (bodyAt1 t) fun _ =>
          iprop(PhiS V c (t.val + 1) ∗ G
            ∗ rd c (st1_0 t) (xAt (F := F) (V c main_v4) t.val) ∗ rd c (st1_1 t) (mAt (F := F) (V c main_v5) t.val)
            ∗ rd c (st1_2 t) (V c main_arg3) ∗ rd c (st1_3 t) (V c main_arg4) ∗ rd c (st1_4 t) (V c main_v6)
            ∗ (dat V c).leavesExact 5 t ∗ (dat V c).leavesExact 6 t ∗ (dat V c).leavesExact 7 t)) :
    iprop((dat V c).Φ t.castSucc ∗ (dat V c).owesAt none t.castSucc
        ∗ bigSep Finset.univ fun w : Fin cfg1.W => iprop(∃ d, owns (c : Thread nD τ) ((cfg1.win w).stage (cfg1.slots t w)) fullShare ((dat V c).before w t d)))
      ⊢ wp frame (wpE (defs₀ (F := F)) 𝒱₀ c none) Set.univ (bodyAt1 t) fun _ =>
          iprop((dat V c).Φ t.succ ∗ (dat V c).owesAt none t.succ ∗ bigSep Finset.univ fun w : Fin cfg1.W => (dat V c).leavesExact w t) := by
  have e0 (d) : (owns (c : Thread nD τ) (st1_0 t) fullShare ((dat V c).before 0 t d) : sProp 𝕄) = rd c (st1_0 t) (xAt (F := F) (V c main_v4) t.val) := by
    rw [before0]; exact owns_rd c (stage_whole1 0 _) _
  have e1 (d) : (owns (c : Thread nD τ) (st1_1 t) fullShare ((dat V c).before 1 t d) : sProp 𝕄) = rd c (st1_1 t) (mAt (F := F) (V c main_v5) t.val) := by
    rw [before1]; exact owns_rd c (stage_whole1 1 _) _
  have e2 (d) : (owns (c : Thread nD τ) (st1_2 t) fullShare ((dat V c).before 2 t d) : sProp 𝕄) = rd c (st1_2 t) (V c main_arg3) := by
    rw [before2]; exact owns_rd c (stage_whole1 2 _) _
  have e3 (d) : (owns (c : Thread nD τ) (st1_3 t) fullShare ((dat V c).before 3 t d) : sProp 𝕄) = rd c (st1_3 t) (V c main_arg4) := by
    rw [before3]; exact owns_rd c (stage_whole1 3 _) _
  have e4 (d) : (owns (c : Thread nD τ) (st1_4 t) fullShare ((dat V c).before 4 t d) : sProp 𝕄) = rd c (st1_4 t) (V c main_v6) := by
    rw [before4]; exact owns_rd c (stage_whole1 4 _) _
  have l0 : rd c (st1_0 t) (xAt (F := F) (V c main_v4) t.val) ⊢ (dat V c).leavesExact 0 t := Entails.of_eq (owns_rd c (stage_whole1 0 _) _).symm
  have l1 : rd c (st1_1 t) (mAt (F := F) (V c main_v5) t.val) ⊢ (dat V c).leavesExact 1 t := Entails.of_eq (owns_rd c (stage_whole1 1 _) _).symm
  have l2 : rd c (st1_2 t) (V c main_arg3) ⊢ (dat V c).leavesExact 2 t := Entails.of_eq (owns_rd c (stage_whole1 2 _) _).symm
  have l3 : rd c (st1_3 t) (V c main_arg4) ⊢ (dat V c).leavesExact 3 t := Entails.of_eq (owns_rd c (stage_whole1 3 _) _).symm
  have l4 : rd c (st1_4 t) (V c main_v6) ⊢ (dat V c).leavesExact 4 t := Entails.of_eq (owns_rd c (stage_whole1 4 _) _).symm
  have c0 : (dat V c).Φ t.castSucc = PhiS V c t.val := Pipeline.Dat.Φ_castSucc (fun n _ => PhiS V c n) t
  have c1 : (dat V c).Φ t.succ = PhiS V c (t.val + 1) := rfl
  have c2 : (dat V c).owesAt none t.succ = (dat V c).owesAt none t.castSucc := rfl
  rw [bigSep_W1, bigSep_W1, c0, c1, c2]
  have o5 (d) : (owns (c : Thread nD τ) (st1_5 t) fullShare ((dat V c).before 5 t d) : sProp 𝕄) = rd c (st1_5 t) ((dat V c).before 5 t d) := owns_rd c (stage_whole1 5 _) _
  have o6 (d) : (owns (c : Thread nD τ) (st1_6 t) fullShare ((dat V c).before 6 t d) : sProp 𝕄) = rd c (st1_6 t) ((dat V c).before 6 t d) := owns_rd c (stage_whole1 6 _) _
  have o7 (d) : (owns (c : Thread nD τ) (st1_7 t) fullShare ((dat V c).before 7 t d) : sProp 𝕄) = rd c (st1_7 t) ((dat V c).before 7 t d) := owns_rd c (stage_whole1 7 _) _
  refine BIBase.Entails.trans ?pre ((exists_elim fun d5 => exists_elim fun d6 => exists_elim fun d7 => h ((dat V c).owesAt none t.castSucc) d5 d6 d7).trans (wp_mono _ _ _ fun _ => ?post))
  case pre =>
    simp only [e0, e1, e2, e3, e4, o5, o6, o7]
    iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩⟩
    iexists d5; iexists d6; iexists d7
    isplitl [HΦ]; · iexact HΦ
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact Howes
  iintro ⟨HΦ, Howes, H0, H1, H2, H3, H4, H5, H6, H7⟩
  isplitl [HΦ]; · iexact HΦ
  isplitl [Howes]; · iexact Howes
  isplitl [H0]; · iapply l0; iexact H0
  isplitl [H1]; · iapply l1; iexact H1
  isplitl [H2]; · iapply l2; iexact H2
  isplitl [H3]; · iapply l3; iexact H3
  isplitl [H4]; · iapply l4; iexact H4
  isplitl [H5]; · iexact H5
  isplitl [H6]; · iexact H6
  iexact H7

theorem last_three {A B A0 A1 A2 A3 A4 B5 B6 B7 C5 C6 C7 : sProp 𝕄} (h5 : B5 ⊢ C5) (h6 : B6 ⊢ C6) (h7 : B7 ⊢ C7) :
    iprop(A ∗ B ∗ A0 ∗ A1 ∗ A2 ∗ A3 ∗ A4 ∗ B5 ∗ B6 ∗ B7) ⊢ iprop(A ∗ B ∗ A0 ∗ A1 ∗ A2 ∗ A3 ∗ A4 ∗ C5 ∗ C6 ∗ C7) := by
  iintro ⟨HA, HB, H0, H1, H2, H3, H4, H5, H6, H7⟩
  isplitl [HA]; · iexact HA
  isplitl [HB]; · iexact HB
  isplitl [H0]; · iexact H0
  isplitl [H1]; · iexact H1
  isplitl [H2]; · iexact H2
  isplitl [H3]; · iexact H3
  isplitl [H4]; · iexact H4
  isplitl [H5]; · iapply h5; iexact H5
  isplitl [H6]; · iapply h6; iexact H6
  iapply h7; iexact H7

/-- The last point's run, at the state. -/
theorem obl_last (c : Dev nD) (t : Fin cfg1.N) (hl : t.val = 199) (n : ℕ) (hn : t.val = n + 1) (X5 X6 X7) (G : sProp 𝕄) :
    iprop(PhiS V c (n + 1)
        ∗ rd c (st1_0 t) (xAt (F := F) (V c main_v4) (n + 1)) ∗ rd c (st1_1 t) (mAt (F := F) (V c main_v5) (n + 1))
        ∗ rd c (st1_2 t) (V c main_arg3) ∗ rd c (st1_3 t) (V c main_arg4) ∗ rd c (st1_4 t) (V c main_v6)
        ∗ rd c (st1_5 t) X5 ∗ rd c (st1_6 t) X6 ∗ rd c (st1_7 t) X7 ∗ G)
      ⊢ wp frame (wpE (defs₀ (F := F)) 𝒱₀ c none) Set.univ (bodyAt1 t) fun _ =>
          iprop(PhiS V c (n + 1 + 1) ∗ G
            ∗ rd c (st1_0 t) (xAt (F := F) (V c main_v4) (n + 1)) ∗ rd c (st1_1 t) (mAt (F := F) (V c main_v5) (n + 1))
            ∗ rd c (st1_2 t) (V c main_arg3) ∗ rd c (st1_3 t) (V c main_arg4) ∗ rd c (st1_4 t) (V c main_v6)
            ∗ rd c (st1_5 t) (k1_pay3 (stN V c (n + 1 + 1)).2) ∗ rd c (st1_6 t) (k1_pay4 (stN V c (n + 1 + 1)).2)
            ∗ rd c (st1_7 t) (k1_pay5 (stN V c (n + 1 + 1)).2)) := by
  unfold PhiS
  simp only [stN, state_succ _ _ _ _ _ (n + 1)]
  exact step_last c (grid1.coords t) _ _ _ _ _ _ _ _ _ _ _ _ _ _ _ _ _ _ _ _
      (fun h => by have := (atFirst_iff t).mp h; omega) ((atLast_iff t).mpr hl) _ _ _ _ _ _ _ _ _ _ G

/-- The first point's. -/
theorem obl_first (c : Dev nD) (t : Fin cfg1.N) (hf : t.val = 0) (X5 X6 X7) (G : sProp 𝕄) :
    iprop(PhiS V c 0
        ∗ rd c (st1_0 t) (xAt (F := F) (V c main_v4) 0) ∗ rd c (st1_1 t) (mAt (F := F) (V c main_v5) 0)
        ∗ rd c (st1_2 t) (V c main_arg3) ∗ rd c (st1_3 t) (V c main_arg4) ∗ rd c (st1_4 t) (V c main_v6)
        ∗ rd c (st1_5 t) X5 ∗ rd c (st1_6 t) X6 ∗ rd c (st1_7 t) X7 ∗ G)
      ⊢ wp frame (wpE (defs₀ (F := F)) 𝒱₀ c none) Set.univ (bodyAt1 t) fun _ =>
          iprop(PhiS V c (0 + 1) ∗ G
            ∗ rd c (st1_0 t) (xAt (F := F) (V c main_v4) 0) ∗ rd c (st1_1 t) (mAt (F := F) (V c main_v5) 0)
            ∗ rd c (st1_2 t) (V c main_arg3) ∗ rd c (st1_3 t) (V c main_arg4) ∗ rd c (st1_4 t) (V c main_v6)
            ∗ rd c (st1_5 t) X5 ∗ rd c (st1_6 t) X6 ∗ rd c (st1_7 t) X7) := by
  unfold PhiS
  simp only [stN, state_succ _ _ _ _ _ 0, state_zero]
  exact step_first c (grid1.coords t) _ _ _ _ _ _ _ _ _ _ _ _ _ _ _ _ _ _ _ _
      ((atFirst_iff t).mpr hf) (fun h => by have := (atLast_iff t).mp h; omega) _ _ _ _ _ X5 X6 X7 G

/-- A middle point's. -/
theorem obl_mid (c : Dev nD) (t : Fin cfg1.N) (hl : t.val ≠ 199) (n : ℕ) (hn : t.val = n + 1) (X5 X6 X7) (G : sProp 𝕄) :
    iprop(PhiS V c (n + 1)
        ∗ rd c (st1_0 t) (xAt (F := F) (V c main_v4) (n + 1)) ∗ rd c (st1_1 t) (mAt (F := F) (V c main_v5) (n + 1))
        ∗ rd c (st1_2 t) (V c main_arg3) ∗ rd c (st1_3 t) (V c main_arg4) ∗ rd c (st1_4 t) (V c main_v6)
        ∗ rd c (st1_5 t) X5 ∗ rd c (st1_6 t) X6 ∗ rd c (st1_7 t) X7 ∗ G)
      ⊢ wp frame (wpE (defs₀ (F := F)) 𝒱₀ c none) Set.univ (bodyAt1 t) fun _ =>
          iprop(PhiS V c (n + 1 + 1) ∗ G
            ∗ rd c (st1_0 t) (xAt (F := F) (V c main_v4) (n + 1)) ∗ rd c (st1_1 t) (mAt (F := F) (V c main_v5) (n + 1))
            ∗ rd c (st1_2 t) (V c main_arg3) ∗ rd c (st1_3 t) (V c main_arg4) ∗ rd c (st1_4 t) (V c main_v6)
            ∗ rd c (st1_5 t) X5 ∗ rd c (st1_6 t) X6 ∗ rd c (st1_7 t) X7) := by
  unfold PhiS
  simp only [stN, state_succ _ _ _ _ _ (n + 1)]
  exact step_mid c (grid1.coords t) _ _ _ _ _ _ _ _ _ _ _ _ _ _ _ _ _ _ _ _
      (fun h => by have := (atFirst_iff t).mp h; omega) (fun h => hl ((atLast_iff t).mp h)) _ _ _ _ _ X5 X6 X7 _ _ G

/-- A result's buffer before the last point, as found, is what the point leaves. -/
theorem idle5 (c : Dev nD) (t : Fin cfg1.N) (hl : t.val ≠ 199) (d) : rd c (st1_5 t) ((dat V c).before 5 t d) ⊢ (dat V c).leavesExact 5 t := by
  rw [leaves_idle5 V c t hl, ← owns_rd c (stage_whole1 5 _) _]; iintro H; iexists d; iexact H
theorem idle6 (c : Dev nD) (t : Fin cfg1.N) (hl : t.val ≠ 199) (d) : rd c (st1_6 t) ((dat V c).before 6 t d) ⊢ (dat V c).leavesExact 6 t := by
  rw [leaves_idle6 V c t hl, ← owns_rd c (stage_whole1 6 _) _]; iintro H; iexists d; iexact H
theorem idle7 (c : Dev nD) (t : Fin cfg1.N) (hl : t.val ≠ 199) (d) : rd c (st1_7 t) ((dat V c).before 7 t d) ⊢ (dat V c).leavesExact 7 t := by
  rw [leaves_idle7 V c t hl, ← owns_rd c (stage_whole1 7 _) _]; iintro H; iexists d; iexact H
theorem live5 (c : Dev nD) (t : Fin cfg1.N) (hl : t.val = 199) (n : ℕ) (hn : 200 = n) :
    rd c (st1_5 t) (k1_pay3 (stN V c n).2) ⊢ (dat V c).leavesExact 5 t := by
  rw [leaves_last5 V c t hl, hn]; exact Entails.of_eq (owns_rd c (stage_whole1 5 _) _).symm
theorem live6 (c : Dev nD) (t : Fin cfg1.N) (hl : t.val = 199) (n : ℕ) (hn : 200 = n) :
    rd c (st1_6 t) (k1_pay4 (stN V c n).2) ⊢ (dat V c).leavesExact 6 t := by
  rw [leaves_last6 V c t hl, hn]; exact Entails.of_eq (owns_rd c (stage_whole1 6 _) _).symm
theorem live7 (c : Dev nD) (t : Fin cfg1.N) (hl : t.val = 199) (n : ℕ) (hn : 200 = n) :
    rd c (st1_7 t) (k1_pay5 (stN V c n).2) ⊢ (dat V c).leavesExact 7 t := by
  rw [leaves_last7 V c t hl, hn]; exact Entails.of_eq (owns_rd c (stage_whole1 7 _) _).symm

/-- The body obligation: the first, a middle, or the last point's run. -/
theorem body_obligation (c : Dev nD) : BodyObligation (dat V c) (defs₀ (F := F)) 𝒱₀ none Set.univ := fun t => by
  refine obl_frame V c t fun G d5 d6 d7 => ?_
  by_cases hf : t.val = 0
  · have hl : t.val ≠ 199 := by omega
    rw [hf]
    exact (obl_first V c t hf _ _ _ G).trans (wp_mono _ _ _ fun _ => last_three (idle5 V c t hl d5) (idle6 V c t hl d6) (idle7 V c t hl d7))
  obtain ⟨n, hn⟩ : ∃ n, t.val = n + 1 := ⟨t.val - 1, by omega⟩
  by_cases hl : t.val = 199
  · have e200 : 200 = n + 1 + 1 := by omega
    rw [hn]
    exact (obl_last V c t hl n hn _ _ _ G).trans
      (wp_mono _ _ _ fun _ => last_three (live5 V c t hl _ e200) (live6 V c t hl _ e200) (live7 V c t hl _ e200))
  rw [hn]
  exact (obl_mid V c t hl n hn _ _ _ G).trans (wp_mono _ _ _ fun _ => last_three (idle5 V c t hl d5) (idle6 V c t hl d6) (idle7 V c t hl d7))

end Cert.Proof.Lstm

end
-- ==== Proof.Entry.lean ====
/-
  The TensorCore region over the thread state "every unscoped buffer at a valuation": what its three result arrays hold
  after it, and the region's record.
-/
module

public import proofs.«01_k».proof.Proof.Region
public import Idealize.ShloMosaic.Lib.Pipeline.Value
public import Idealize.ShloMosaic.Lib.Pipeline.RegionsLoop

@[expose] public section

noncomputable section

namespace Cert.Proof.Lstm

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))

/-! ## The result arrays after the last point -/

theorem emb5 (t : Fin cfg1.N) (y : S1024x256.Idx) : ((cfg1.win 5).blk t).view.emb y = y := by
  funext a
  refine Fin.ext ((Rect.emb_apply _ _ _).trans ?_)
  match a with
  | 0 => show 0 * 1024 + 1 * (y 0).val = (y 0).val; omega
  | 1 => show 0 * 256 + 1 * (y 1).val = (y 1).val; omega
theorem emb6 (t : Fin cfg1.N) (y : S1024x256.Idx) : ((cfg1.win 6).blk t).view.emb y = y := by
  funext a
  refine Fin.ext ((Rect.emb_apply _ _ _).trans ?_)
  match a with
  | 0 => show 0 * 1024 + 1 * (y 0).val = (y 0).val; omega
  | 1 => show 0 * 256 + 1 * (y 1).val = (y 1).val; omega
theorem emb7 (t : Fin cfg1.N) (y : S1024x1.Idx) : ((cfg1.win 7).blk t).view.emb y = y := by
  funext a
  refine Fin.ext ((Rect.emb_apply _ _ _).trans ?_)
  match a with
  | 0 => show 0 * 1024 + 1 * (y 0).val = (y 0).val; omega
  | 1 => show 0 * 1 + 1 * (y 1).val = (y 1).val; omega

/-- The last point. -/
def tLast : Fin cfg1.N := ⟨199, lt_of_lt_of_eq (by decide) N_1.symm⟩

theorem final5 (c : Dev nD) : (dat V c).arrAt 5 cfg1.N = k1_pay3 (stN V c 200).2 :=
  (dat V c).arrAt_eq_of_cover 5 (k1_pay3 (stN V c 200).2)
    (fun t _ => by
      funext y
      refine Eq.symm ((View.read_apply _ _).trans ?_)
      show k1_pay3 (stN V c 200).2 _ = k1_pay3 (stN V c 200).2 y
      exact congrArg _ (emb5 t y))
    fun i => ⟨tLast, (flush1_5 tLast).mpr rfl, by
      have h := ((cfg1.win 5).blk tLast).view.emb_mem_set i
      rwa [emb5] at h⟩
theorem final6 (c : Dev nD) : (dat V c).arrAt 6 cfg1.N = k1_pay4 (stN V c 200).2 :=
  (dat V c).arrAt_eq_of_cover 6 (k1_pay4 (stN V c 200).2)
    (fun t _ => by
      funext y
      refine Eq.symm ((View.read_apply _ _).trans ?_)
      show k1_pay4 (stN V c 200).2 _ = k1_pay4 (stN V c 200).2 y
      exact congrArg _ (emb6 t y))
    fun i => ⟨tLast, (flush1_6 tLast).mpr rfl, by
      have h := ((cfg1.win 6).blk tLast).view.emb_mem_set i
      rwa [emb6] at h⟩
theorem final7 (c : Dev nD) : (dat V c).arrAt 7 cfg1.N = k1_pay5 (stN V c 200).2 :=
  (dat V c).arrAt_eq_of_cover 7 (k1_pay5 (stN V c 200).2)
    (fun t _ => by
      funext y
      refine Eq.symm ((View.read_apply _ _).trans ?_)
      show k1_pay5 (stN V c 200).2 _ = k1_pay5 (stN V c 200).2 y
      exact congrArg _ (emb7 t y))
    fun i => ⟨tLast, (flush1_7 tLast).mpr rfl, by
      have h := ((cfg1.win 7).blk tLast).view.emb_mem_set i
      rwa [emb7] at h⟩

/-! ## The region over the thread state -/

abbrev adm : (p : Fin 1) → (pcfgs (F := F) p).Adm := fun p => (cfgs p).toPCfg_adm

/-- The proof data of the one pipeline. -/
def pdats : (p : Fin 1) → (c : Dev nD) → Dat τ (Elt F) (HIx 1) ℕ UU ℕ (Pipeline.pin (pcfgs (F := F)) adm p) c
  | ⟨0, _⟩ => fun c => dat V c

/-- What core `c` owes after the SparseCore call: nothing, its recorded pairs at the levels of that call's handshakes. -/
def owe (c : Dev nD) : sProp 𝕄 :=
  iprop(∃ W, ⌜(K (F := F)).WBelow (SparseCore.T c) W 8⌝ ∗ owes (c : Thread nD τ) (0 : CellTallies nD τ sig (HIx 1)) W)

variable (Vp : (c : Dev nD) → (b : Ref sig .tc) → Buf (Elt F) ((c : Thread nD τ).loc b))

theorem owe_in (c : Dev nD) : owe (F := F) c ⊢ (dat V c).owesAt none 0 := by
  unfold owe Pipeline.Dat.owesAt Pipeline.owesWithin
  iintro ⟨%W, %hW, HO⟩
  iexists W
  isplitr
  · ipureintro; exact fun p hp => Or.inl (hW p hp)
  iexact HO

theorem owe_out (c : Dev nD) : (dat V c).owesAt none (Fin.last cfg1.N) ⊢ owe (F := F) c := by
  unfold owe Pipeline.Dat.owesAt Pipeline.owesWithin
  iintro ⟨%W, %hW, HO⟩
  iexists W
  isplitr
  · ipureintro
    intro p hp
    rcases hW hp with h | ⟨w, s, h⟩
    · exact h
    · have h2 : p.2 = none := congrArg Prod.snd h
      rw [h2]; exact Nat.zero_le _
  iexact HO

theorem scratch_in (c : Dev nD) : (Pipeline.scopedRest (Ix := HIx 1) (Name := ℕ) (U := UU) (Lvl := ℕ) (Val := Elt F) spec1 c : sProp 𝕄) ⊢ PhiS V c 0 := by
  rw [scopedRest1_eq]; exact BIBase.Entails.rfl

theorem scratch_out (c : Dev nD) (n : ℕ) : PhiS V c (n + 1) ⊢ (Pipeline.scopedRest (Ix := HIx 1) (Name := ℕ) (U := UU) (Lvl := ℕ) (Val := Elt F) spec1 c : sProp 𝕄) := by
  rw [scopedRest1_eq]
  unfold PhiS rd
  iintro ⟨⟨%f, -, Hf⟩, ⟨%g, -, Hg⟩⟩
  isplitl [Hf]
  · iexists f; iexact Hf
  iexists g; iexact Hg

set_option backward.isDefEq.respectTransparency.types false in
/-- The region, from every unscoped buffer at `V` to every unscoped buffer at `Vp`: the three results at the last state's,
    the others as they were. -/
def reg (hV5 : ∀ c, Vp c main_v7_0 = k1_pay3 (stN V c 200).2) (hV6 : ∀ c, Vp c main_v7_1 = k1_pay4 (stN V c 200).2)
    (hV7 : ∀ c, Vp c main_v7_2 = k1_pay5 (stN V c 200).2)
    (hVp_ne : ∀ c (b : Ref sig .tc), b ≠ main_v7_0 → b ≠ main_v7_1 → b ≠ main_v7_2 → Vp c b = V c b) :
    Pipeline.RegionSeg (pcfgs (F := F)) adm (pdats V) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ owe (F := F) c)
  post c := iprop(unscopedBufs c (Vp c) ∗ owe (F := F) c)
  X _ := BI.emp
  Y _ := BI.emp
  Z c := iprop(Pipeline.unscopedRest (Ix := HIx 1) (Name := ℕ) (U := UU) (Lvl := ℕ) spec1 c (V c))
  hentry c := by
    rw [Pipeline.ownSems0_none]
    have hsplit := Pipeline.arrays_of_unscopedBufs (p := 0) (pcfgs (F := F)) adm (pdats V) (launch1).win (launch1).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owe_in V c); iexact HO
    isplitr; · iempintro
    iexact Hrest
  hin c := by
    rw [show (pdats V 0 c).Φ 0 = PhiS V c 0 from rfl]
    iintro ⟨-, -, Hr⟩
    iapply (scratch_in V c); iexact Hr
  hout c := by
    rw [Pipeline.ownSems0_none, show (pdats V 0 c).Φ (Fin.last _) = PhiS V c (199 + 1) from congrArg (PhiS V c) N_1]
    iintro Hr
    isplitr; · iempintro
    isplitr; · iempintro
    iapply (scratch_out V c 199); iexact Hr
  hexit c := by
    have hjoin := Pipeline.unscopedBufs_of_arrays (p := 0) (pcfgs (F := F)) adm (Ix := HIx 1) (Name := ℕ) (U := UU) (Lvl := ℕ) (launch1).win (launch1).arr_whole c
      (pdats V) ((pdats V 0 c).share_full fun _ => rfl) (V c) (Vp c) ((pdats V 0 c).arrAt · cfg1.N)
      (fun w => by
        match w with
        | ⟨0, _⟩ => exact ((pdats V 0 c).arrAt_in 0 rfl _).trans (hVp_ne c main_v4 (by decide) (by decide) (by decide)).symm
        | ⟨1, _⟩ => exact ((pdats V 0 c).arrAt_in 1 rfl _).trans (hVp_ne c main_v5 (by decide) (by decide) (by decide)).symm
        | ⟨2, _⟩ => exact ((pdats V 0 c).arrAt_in 2 rfl _).trans (hVp_ne c main_arg3 (by decide) (by decide) (by decide)).symm
        | ⟨3, _⟩ => exact ((pdats V 0 c).arrAt_in 3 rfl _).trans (hVp_ne c main_arg4 (by decide) (by decide) (by decide)).symm
        | ⟨4, _⟩ => exact ((pdats V 0 c).arrAt_in 4 rfl _).trans (hVp_ne c main_v6 (by decide) (by decide) (by decide)).symm
        | ⟨5, _⟩ => exact (final5 V c).trans (hV5 c).symm
        | ⟨6, _⟩ => exact (final6 V c).trans (hV6 c).symm
        | ⟨7, _⟩ => exact (final7 V c).trans (hV7 c).symm)
      (fun b hb => hVp_ne c b (fun h => hb (h ▸ Finset.mem_image.mpr ⟨5, Finset.mem_univ _, rfl⟩))
        (fun h => hb (h ▸ Finset.mem_image.mpr ⟨6, Finset.mem_univ _, rfl⟩)) (fun h => hb (h ▸ Finset.mem_image.mpr ⟨7, Finset.mem_univ _, rfl⟩)))
    iintro ⟨Ha, HO, -, Hrest⟩
    imodintro
    isplitl [Ha Hrest]
    · iapply hjoin; isplitl [Ha] <;> iassumption
    iapply (owe_out V c); iexact HO

end Cert.Proof.Lstm

end
-- ==== Proof.Tile.lean ====
/-
  One tile's task: it fetches its plane of row numbers, and in 100 trips gathers 128 rows of the table by the indirect
  stream and writes them to its rows of the result. The loop's invariant holds the result's rows written so far at
  their exact values (`mix`), so that the task brings back its rows of the result at `gat`.
-/
module

public import proofs.«01_k».proof.Proof.Setup

@[expose] public section

noncomputable section

namespace Cert.Proof.Lstm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "iV" => (Memref.whole Cert.KernelIdeal.main_v2_scv : Memref Cert.KernelIdeal.sig Kind.scVector Space.hbm Cert.KernelIdeal.S32x100x128 EltTy.i32)
local notation "xV" => (Memref.whole Cert.KernelIdeal.main_arg2_scv : Memref Cert.KernelIdeal.sig Kind.scVector Space.hbm Cert.KernelIdeal.S100001x128 EltTy.f32)
local notation "oV" => (Memref.whole Cert.KernelIdeal.main_v3_scv : Memref Cert.KernelIdeal.sig Kind.scVector Space.hbm Cert.KernelIdeal.S409600x128 EltTy.f32)
local notation "sV" => (Memref.whole Cert.KernelIdeal.cc0_scratch0 : Memref Cert.KernelIdeal.sig Kind.scVector Space.vmem Cert.KernelIdeal.S100x128 EltTy.i32)
local notation "rV" => (Memref.whole Cert.KernelIdeal.cc0_scratch1 : Memref Cert.KernelIdeal.sig Kind.scVector Space.vmem Cert.KernelIdeal.S128x128 EltTy.f32)

/-! ## What the handshakes carry -/

variable (ft : (d : Dev nD) → Buf (Elt F) (xLoc d)) (fi : (d : Dev nD) → Buf (Elt F) (iLoc d)) (fo : (d : Dev nD) → Buf (Elt F) (oLoc d))

/-- Worker `w`'s share of the table. -/
abbrev xq (w : ℕ) : PosShare TreeShare := leaf 5 fullShare ⟨w % 32, Nat.mod_lt _ (by decide)⟩

abbrev iPts (d : Dev nD) (w : ℕ) : sProp 𝕄 := iLoc d ↦[iSet w]{fullShare} fi d
abbrev xPts (d : Dev nD) (w : ℕ) : sProp 𝕄 := xLoc d ↦{xq w} ft d
abbrev oPts (d : Dev nD) (w : ℕ) (f : Buf (Elt F) (oLoc d)) : sProp 𝕄 := oLoc d ↦[oSet w]{fullShare} f

/-- The gathered rows, as the result's contents. -/
abbrev gatB (d : Dev nD) : Buf (Elt F) (oLoc d) := gat (X := Elt F .f32) (ft d) (fi d)

/-- What worker `w`'s task takes: its plane of the row numbers, its share of the table, its rows of the result. -/
abbrev goW (d : Dev nD) (w : ℕ) : sProp 𝕄 := iprop(iPts fi d w ∗ xPts ft d w ∗ oPts d w (fo d))
/-- What it brings back: the same, its rows of the result gathered. -/
abbrev tdW (d : Dev nD) (w : ℕ) : sProp 𝕄 := iprop(iPts fi d w ∗ xPts ft d w ∗ oPts d w (gatB ft fi d))

variable [FloatOps F]

/-- The call's payload: each task its worker's part; a SparseCore's part is its sixteen tasks' parts. -/
def P : (K (F := F)).Pay (nD := nD) (Val := Elt F) (Name := ℕ) (U := UU) where
  st := fun q d c => match q with | 0 => bigSep Finset.univ fun i : Fin ((K (F := F)).nSub 0) => goW ft fi fo d (2 * i.val + c.val)
  dn := fun q d c => match q with | 0 => bigSep Finset.univ fun i : Fin ((K (F := F)).nSub 0) => tdW ft fi d (2 * i.val + c.val)
  go := fun q d c i => match q with | 0 => goW ft fi fo d (2 * i.val + c.val)
  td := fun q d c i => match q with | 0 => tdW ft fi d (2 * i.val + c.val)
  x := fun _ _ => iprop(emp)

instance P_storable : (P ft fi fo).IsStorable where
  st q d c := match q with
    | 0 => (inferInstance : BI.Storable (upEmb : UEmb _ 𝕄) (bigSep Finset.univ fun i : Fin ((K (F := F)).nSub 0) => goW ft fi fo d (2 * i.val + c.val)))
  dn q d c := match q with
    | 0 => (inferInstance : BI.Storable (upEmb : UEmb _ 𝕄) (bigSep Finset.univ fun i : Fin ((K (F := F)).nSub 0) => tdW ft fi d (2 * i.val + c.val)))
  go q d c i := match q with
    | 0 => (inferInstance : BI.Storable (upEmb : UEmb _ 𝕄) (goW ft fi fo d (2 * i.val + c.val)))
  td q d c i := match q with
    | 0 => (inferInstance : BI.Storable (upEmb : UEmb _ 𝕄) (tdW ft fi d (2 * i.val + c.val)))

theorem vecSplit : (K (F := F)).VecSplit' (P ft fi fo) 0 := by
  intro d c
  show (bigSep Finset.univ fun i : Fin ((K (F := F)).nSub 0) => goW ft fi fo d (2 * i.val + c.val)) ⊢ |={Set.univ}=> iprop(
      (bigSep Finset.univ fun i : Fin ((K (F := F)).nSub 0) => goW ft fi fo d (2 * i.val + c.val))
      ∗ ((bigSep Finset.univ fun i : Fin ((K (F := F)).nSub 0) => tdW ft fi d (2 * i.val + c.val))
          -∗ (bigSep Finset.univ fun i : Fin ((K (F := F)).nSub 0) => tdW ft fi d (2 * i.val + c.val))))
  iintro H; imodintro
  isplitl [H]; · iexact H
  iintro H; iexact H

/-- The row numbers name rows of the table. -/
def PreOK : Prop := ∀ (d : Dev nD) (j : S32x100x128.Idx), (fi d j : BitVec 32).toNat < 100001

/-! ## The task -/

section Task

variable (d : Dev nD) (L : grid0.Coords)

abbrev cV (L : grid0.Coords) : Fin τ.nSC := (L 0).castLE hcore0
abbrev jV (L : grid0.Coords) : Fin τ.nSub := (L 1).castLE hsub0
/-- The tile's thread. -/
abbrev tV (d : Dev nD) (L : grid0.Coords) : Thread nD τ := V d (cV L) (jV L)

omit [FloatOps F] in
theorem pts_iPl (f : Buf (Elt F) (iLoc d)) :
    ((iPl L).view.loc (tV d L) ↦[(iPl L).view.set]{fullShare} f : sProp 𝕄) = iLoc d ↦[iSet (wid L)]{fullShare} f := by
  rw [set_iPl]

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

omit [FloatOps F] in
/-- The three counters the task uses are among the subcore's own. -/
theorem ownSems0_V :
    (ownSems0 (tV d L) : sProp 𝕄)
      = iprop(semVal (cAcell d (cV L) (jV L)) 0 ∗ semVal (cBcell d (cV L) (jV L)) 0 ∗ semVal (cCcell d (cV L) (jV L)) 0
          ∗ bigSep ((((ownCells (tV d L)).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (tV d L) : sProp 𝕄)
      = iprop((∃ f, (tV d L).loc cc0_scratch0 ↦{fullShare} f) ∗ (∃ f, (tV d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The loop's invariant at trip `n`: the share of the table, the list, the row buffer at anything, the two counters at
    zero, the worker's rows of the result with the first `128 * n` gathered, and the waits recorded so far. -/
def inv (O : CellTallies nD τ sig (HIx 1)) (W : Waits sig (HIx 1)) (n : ℕ) (_ : PUnit) : sProp 𝕄 :=
  iprop(Transfers.MayWaits (tV d L) (none : HIx 1) O
    ∗ ((xV).view.loc (tV d L) ↦{xq (wid L)} ft d)
    ∗ ((sV).view.loc (tV d L) ↦{fullShare} (lst (fi d) L : Buf (Elt F) ((tV d L).loc cc0_scratch0)))
    ∗ (∃ f, (rV).view.loc (tV d L) ↦{fullShare} f)
    ∗ semVal (tV d L, SemLoc.dma cc0_scratch2.sem) 0 ∗ semVal (tV d L, SemLoc.dma cc0_scoped1.sem) 0
    ∗ ((oV).view.loc (tV d L) ↦[oSet (wid L)]{fullShare} (mix (X := Elt F .f32) (ft d) (fi d) (fo d) L n : Buf (Elt F) (oLoc d)))
    ∗ ∃ W', ⌜∀ p ∈ W', p ∈ W ∨ p.2 = none⌝ ∗ owes (tV d L) O W')

set_option maxHeartbeats 4000000 in
/-- One trip: the gather of the trip's 128 rows and its wait, the write of them to the result and its wait. -/
theorem trip_body (hpre : PreOK fi) (O : CellTallies nD τ sig (HIx 1)) (W : Waits sig (HIx 1)) (t : Fin k0_t1_loop.trips) :
    inv ft fi fo d L O W t.val ⟨⟩
      ⊢ wp frame (wpE (defs₀ (F := F)) 𝒱₀ (tV d L) none) Set.univ
          (k0_t1_body L xV (Memref.isWhole_whole _) iV (Memref.isWhole_whole _) oV (Memref.isWhole_whole _)
            sV (Memref.isWhole_whole _) rV (Memref.isWhole_whole _) cc0_scratch2 cc0_scoped0 cc0_scoped1 t ())
          fun _ => inv ft fi fo d L O W (t.val + 1) ⟨⟩ := by
  unfold inv k0_t1_body
  iintro ⟨#Hmw, Hx, Hs, ⟨%f, Hr⟩, HsemB, HsemC, Ho, %W', %hW', HO⟩
  have hrs : (rV).view.set = Finset.univ := View.set_whole _
  ihave Hxs := (pointsTo_split_subset (q := xq (wid L)) (f := ft d) (S := Finset.univ) (Finset.subset_univ (xAll).view.set)).1 $$ Hx
  icases Hxs with ⟨Hxs, Hxr⟩
  ihave Hss := (pointsTo_split_subset (ℓ := (sV).view.loc (tV d L)) (q := fullShare) (f := (lst (fi d) L : Buf (Elt F) ((tV d L).loc cc0_scratch0))) (S := Finset.univ) (Finset.subset_univ (sRow t).view.set)).1 $$ Hs
  icases Hss with ⟨Hss, Hsr⟩
  ihave Hr' := (Entails.of_eq (show ((rV).view.loc (tV d L) ↦{fullShare} f : sProp 𝕄)
      = (rV).view.loc (tV d L) ↦[(rV).view.set]{fullShare} f by rw [hrs])) $$ Hr
  have hN : ∀ h : S100001x128.Gathers 0 S128x128, ∑ j, ((rV).slice (S128x128.rowRect h.axis' j) (S128x128.stride_rowRect h.axis' j)).view.dmaCredit
      = (rV).view.dmaCredit := by decide +kernel
  have hin := fun x => sRow_inb (F := F) t L (fi d) (hpre d) x
  iapply (SparseCore.wp_indirectGatherLocal countersEmb 𝒱₀ (tV d L) none (hg := gathers_S100001x128_S128x128) (default : HIx 1)
      (rV).view.dmaCredit (hN _) (by decide) hin) $$ [Hxs Hr' Hss HsemB]
  · isplitl [Hxs]; · iexact Hxs
    isplitl [Hr']; · iexact Hr'
    isplitl [Hss]; · iexact Hss
    iexact HsemB
  iintro Hfl
  sl_exec
  iapply (Transfers.wp_waitLocalO countersEmb 𝒱₀ (tV d L) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hss⟩, HsemB, HO⟩
  ihave Hx := (pointsTo_split_subset (q := xq (wid L)) (f := ft d) (S := Finset.univ) (Finset.subset_univ (xAll).view.set)).2 $$ [Hxs Hxr]; · isplitl [Hxs] <;> iassumption
  ihave Hs := (pointsTo_split_subset (ℓ := (sV).view.loc (tV d L)) (q := fullShare) (f := (lst (fi d) L : Buf (Elt F) ((tV d L).loc cc0_scratch0))) (S := Finset.univ) (Finset.subset_univ (sRow t).view.set)).2 $$ [Hss Hsr]; · isplitl [Hss] <;> iassumption
  ihave Hr := (Entails.of_eq (show ((rV).view.loc (tV d L) ↦[(rV).view.set]{fullShare} _ : sProp 𝕄)
      = (rV).view.loc (tV d L) ↦{fullShare} _ by rw [hrs])) $$ Hr'
  ihave Hos := (pointsTo_split_subset (q := fullShare) (f := (mix (X := Elt F .f32) (ft d) (fi d) (fo d) L t.val : Buf (Elt F) (oLoc d))) (oCh_sub L t)).1 $$ Ho
  icases Hos with ⟨Hoc, Hor⟩
  ihave Hoc' := (Entails.of_eq (show (oLoc d ↦[(oCh L t).view.set]{fullShare} (mix (X := Elt F .f32) (ft d) (fi d) (fo d) L t.val : Buf (Elt F) (oLoc d)) : sProp 𝕄)
      = (oCh L t).view.loc (tV d L) ↦[(oCh L t).view.set]{fullShare} (mix (X := Elt F .f32) (ft d) (fi d) (fo d) L t.val : Buf (Elt F) (oLoc d)) from rfl)) $$ Hoc
  sl_exec (disch := exact View.amount_pos _ _ (show 0 < S128x128.numel by decide))
  sl_step
  have hdma : trip_body.sl.dma0 ft fi d L t f hin
      = SparseCore.gatherPayload (F := F) gathers_S100001x128_S128x128 ((xAll).view.read (Elt F) (ft d)) (SparseCore.rows ((sRow t).view.read (Elt F) (lst (fi d) L)) rfl hin) := by
    unfold trip_body.sl.dma0
    rw [View.write_whole_univ]
    rfl
  have hval : ∀ y ∈ (oCh L t).view.set,
      ((oCh L t).view.writes (Elt F) (mix (X := Elt F .f32) (ft d) (fi d) (fo d) L t.val) [⟨Rect.whole S128x128, trip_body.sl.dma0 ft fi d L t f hin⟩]
        : Buf (Elt F) (oLoc d)) y = mix (X := Elt F .f32) (ft d) (fi d) (fo d) L (t.val + 1) y := by
    refine mix_write L t (ft d) (fi d) (fo d) _ fun x => ?_
    rw [View.read_writes_whole, hdma]
    exact gather_apply t L (ft d) (fi d) (hpre d) rfl hin x
  ihave Hoc := (Entails.of_eq (show ((oCh L t).view.loc (tV d L) ↦[(oCh L t).view.set]{fullShare}
        (oCh L t).view.writes (Elt F) (mix (X := Elt F .f32) (ft d) (fi d) (fo d) L t.val) [⟨Rect.whole S128x128, trip_body.sl.dma0 ft fi d L t f hin⟩] : sProp 𝕄)
      = oLoc d ↦[(oCh L t).view.set]{fullShare} (mix (X := Elt F .f32) (ft d) (fi d) (fo d) L (t.val + 1) : Buf (Elt F) (oLoc d)) from
    pointsTo_congr hval)) $$ Hoc'
  ihave Hor' := (Entails.of_eq (show (oLoc d ↦[oSet (wid L) \ (oCh L t).view.set]{fullShare} (mix (X := Elt F .f32) (ft d) (fi d) (fo d) L t.val : Buf (Elt F) (oLoc d)) : sProp 𝕄)
      = oLoc d ↦[oSet (wid L) \ (oCh L t).view.set]{fullShare} (mix (X := Elt F .f32) (ft d) (fi d) (fo d) L (t.val + 1) : Buf (Elt F) (oLoc d)) from
    pointsTo_congr fun y hy => mix_rest L t _ _ _ y (Finset.mem_sdiff.1 hy).2)) $$ Hor
  ihave Ho := (pointsTo_split_subset (ℓ := oLoc d) (q := fullShare) (f := (mix (X := Elt F .f32) (ft d) (fi d) (fo d) L (t.val + 1) : Buf (Elt F) (oLoc d))) (oCh_sub L t)).2 $$ [Hoc Hor']; · isplitl [Hoc] <;> iassumption
  isplitr; · iexact Hmw
  isplitl [Hx]; · iexact Hx
  isplitl [Hs]; · iexact Hs
  isplitl [Hr]; · iexists _; iexact Hr
  isplitl [HsemB]; · iexact HsemB
  isplitl [HsemC]; · iexact HsemC
  isplitl [Ho]; · iexact Ho
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 4000000 in
/-- The task on vector subcore `(L 0, L 1)` of device `d`. -/
theorem tile_body (hF : (K (F := F)).Facts) (hpre : PreOK fi) (O : CellTallies nD τ sig (HIx 1)) (W : Waits sig (HIx 1)) (hO : ∀ g, O g none = 0) :
    iprop(levAts (K (F := F)).L (K (F := F)).lev ∗ emp
        ∗ goW ft fi fo d (wid L)
        ∗ scopedBufs (tV d L) ∗ scopedSems0 (tV d L) ∗ owes (tV d L) O W)
      ⊢ wp frame (wpE (defs₀ (F := F)) 𝒱₀ (tV d L) none) Set.univ
          (cc0_k L xV (Memref.isWhole_whole _) iV (Memref.isWhole_whole _) oV (Memref.isWhole_whole _)
            sV (Memref.isWhole_whole _) rV (Memref.isWhole_whole _) cc0_scratch2 cc0_scoped0 cc0_scoped1)
          fun _ => iprop(tdW ft fi d (wid L)
            ∗ scopedBufs (tV d L) ∗ scopedSems0 (tV d L)
            ∗ ∃ W', ⌜∀ p ∈ W', p ∈ W ∨ p.2 = none⌝ ∗ owes (tV d L) O W') := by
  simp only [cc0_k_eq_skeleton]; unfold cc0_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (tV d L) (default : HIx 1) O from
    (K (F := F)).mayWaits_none (thr := tV d L) hO) $$ Hlv
  ihave Hi' := (Entails.of_eq (pts_iPl (F := F) d L _).symm) $$ Hi
  ihave Hs' := (Entails.of_eq (show ((tV d L).loc cc0_scratch0 ↦{fullShare} fs : sProp 𝕄) = (sV).view.loc (tV d L) ↦{fullShare} fs from rfl)) $$ Hs
  ihave Hr' := (Entails.of_eq (show ((tV d L).loc cc0_scratch1 ↦{fullShare} fr : sProp 𝕄) = (rV).view.loc (tV d L) ↦{fullShare} fr from rfl)) $$ Hr
  sl_exec
  have hs : (View.write (Elt F) (sV).view fs (tile_body.sl.dma0 fi d L) Finset.univ : Buf (Elt F) ((tV d L).loc cc0_scratch0)) = lst (fi d) L := by
    rw [View.write_whole_univ]
    exact read_iPl L d (fi d)
  sl_for (inv ft fi fo d L O W) $$ [Hmw Hx Hs' Hr' HsemB HsemC Ho HO]
  case region =>
    intro t _
    exact trip_body ft fi fo d L hpre O W t
  · unfold inv
    isplitr; · iexact Hmw
    isplitl [Hx]; · iexact Hx
    isplitl [Hs']; · iapply (Entails.of_eq (congrArg (fun g => ((sV).view.loc (tV d L) ↦{fullShare} g : sProp 𝕄)) hs)); iexact Hs'
    isplitl [Hr']; · iexists _; iexact Hr'
    isplitl [HsemB]; · iexact HsemB
    isplitl [HsemC]; · iexact HsemC
    isplitl [Ho]
    · iapply (Entails.of_eq (show (oPts d (wid L) (fo d) : sProp 𝕄) = oPts d (wid L) (mix (X := Elt F .f32) (ft d) (fi d) (fo d) L 0) from
        pointsTo_congr fun y hy => (mix_zero L _ _ _ y hy).symm)); iexact Ho
    iexists _; isplitr
    swap; · iexact HO
    ipureintro; intro p hp
    rcases Finset.mem_insert.mp hp with hp | hp; · exact .inr (hp ▸ rfl)
    exact .inl hp
  iintro %acc HI
  unfold inv
  icases HI with ⟨-, Hx, Hs, ⟨%f, Hr⟩, HsemB, HsemC, Ho, %W', %hW', HO⟩
  sl_exec
  sl_step
  isplitl [Hi' Hx Ho]
  · isplitl [Hi']; · iapply (Entails.of_eq (pts_iPl (F := F) d L _)); iexact Hi'
    isplitl [Hx]; · iexact Hx
    iapply (Entails.of_eq (show (oPts d (wid L) (mix (X := Elt F .f32) (ft d) (fi d) (fo d) L k0_t1_loop.trips) : sProp 𝕄) = oPts d (wid L) (gatB ft fi d) from
      pointsTo_congr fun y hy => mix_last L _ _ _ y hy)); iexact Ho
  isplitl [Hs Hr Hbufs]
  · isplitl [Hs]; · iexists _; iexact Hs
    isplitl [Hr]; · iexists _; iexact Hr
    iexact Hbufs
  isplitl [HsemA HsemB HsemC Hsems]
  · isplitl [HsemA]; · iexact HsemA
    isplitl [HsemB]; · iexact HsemB
    isplitl [HsemC]; · iexact HsemC
    iexact Hsems
  iexists W'; isplitr
  · ipureintro; exact hW'
  · iexact HO

/-! ## The obligation -/

/-- A tile's coordinates in the mesh. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK fi) : (K (F := F)).TileObl (D (F := F)) 𝒱 (P ft fi fo) v₀ 0 := by
  intro d c i O W hO _ _
  simp only [show (P ft fi fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body ft fi fo d (coordsV ⟨_, hci.1⟩ ⟨_, hci.2⟩) hF hpre O W hO).trans (wp_mono frame _ _ fun _ => obl_post)

end Task

end Cert.Proof.Lstm

end
-- ==== Proof.Main.lean ====
/-
  The program's run: @main on the TensorCore as a fold of valuations over every unscoped buffer (the host operations
  before the SparseCore call, the call, the host operations before the TensorCore region, the region, the last host
  operation), and the run of the whole machine from it.
-/
module

public import proofs.«01_k».proof.Proof.Entry
public import proofs.«01_k».proof.Proof.Tile
public import Idealize.ShloMosaic.Lib.SparseCore.Quiescent
public import Idealize.ShloMosaic.Lib.StableHlo.Run
public import Idealize.ShloMosaic.Lib.ShareLeaves

@[expose] public section

noncomputable section

namespace Cert.Proof.Lstm

open Cert.KernelIdeal Cert.KernelIdeal.Gen

open Idealize.ShloMosaic
open Idealize.ShloMosaic.TcCoe Idealize.ShloMosaic.Tactic
open Idealize.ShloMosaic.SparseCore (S T)
open Idealize.ShloMosaic.SparseCore.Cfg (HIx Pay)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The unscoped buffers, held at a valuation -/

/-- The TensorCore's unscoped references: what the thread state holds at a valuation. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = held (c : Thread nD τ) ucRefs W := by
  unfold unscopedBufs StableHlo.held ucRefs StableHlo.tcRefs
  rw [Finset.filter_map, bigSep_map]
  rfl

theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

theorem mem_ucRefs (b : Ref sig .tc) (h : b.isScoped = false) : Proc.devRef (τ := τ) .tc b ∈ ucRefs :=
  Finset.mem_filter.mpr ⟨StableHlo.devRef_mem_tcRefs b, fun h' => Bool.false_ne_true (h.symm.trans h')⟩

/-! ## The host operations and the valuations -/

abbrev hop0 : HloOp τ sig (Elt F) :=
  StableHlo.binary main_arg0 main_arg1 main_v0 ((fun a b => concatenate S2048x200 0 [⟨S1024x200, a⟩, ⟨S1024x200, b⟩] concatenates_S1024x200_S1024x200_S2048x200_d0) : (⟨S1024x200, .i32⟩ : BufTy).Contents (Elt F) → (⟨S1024x200, .i32⟩ : BufTy).Contents (Elt F) → (⟨S2048x200, .i32⟩ : BufTy).Contents (Elt F))
abbrev hop1 : HloOp τ sig (Elt F) :=
  StableHlo.unary main_v0 main_v1 ((transpose S200x2048 [1, 0] · transposes_S2048x200_S200x2048_1_0) : (⟨S2048x200, .i32⟩ : BufTy).Contents (Elt F) → (⟨S200x2048, .i32⟩ : BufTy).Contents (Elt F))
abbrev hop2 : HloOp τ sig (Elt F) :=
  StableHlo.reshape main_v1 main_v2 (rfl : (.i32 : EltTy) = .i32) shapeCasts_S200x2048_S32x100x128
abbrev hop3 : HloOp τ sig (Elt F) :=
  StableHlo.reshape main_v3 main_v4 (rfl : (.f32 : EltTy) = .f32) shapeCasts_S409600x128_S200x2048x128
abbrev hop4 : HloOp τ sig (Elt F) :=
  StableHlo.reshape main_v1 main_v5 (rfl : (.i32 : EltTy) = .i32) shapeCasts_S200x2048_S200x2048x1
abbrev hop5 : HloOp τ sig (Elt F) :=
  StableHlo.reshape main_arg5 main_v6 (rfl : (.f32 : EltTy) = .f32) shapeCasts_S1024_S1x1024
abbrev hop6 : HloOp τ sig (Elt F) :=
  StableHlo.reshape main_v7_2 main_v8 (rfl : (.f32 : EltTy) = .f32) shapeCasts_S1024x1_S1024

variable (m : (ℓ : Loc nD τ sig) → Buf (Elt F) ℓ) (ρ : Dev nD → PrngReg)

/-- The contents at the launch. -/
def W0 (d : Dev nD) : Valuation τ sig (Elt F) := fun b => m (d, b)
/-- Before the SparseCore call. -/
def W1 (d : Dev nD) : Valuation τ sig (Elt F) := hop2.result (hop1.result (hop0.result (W0 m d)))

/-- The table, the row numbers and the result array as the SparseCore call finds them. -/
def ftB (d : Dev nD) : Buf (Elt F) (xLoc d) := W1 m d main_arg2
def fiB (d : Dev nD) : Buf (Elt F) (iLoc d) := W1 m d main_v2
def foB (d : Dev nD) : Buf (Elt F) (oLoc d) := W1 m d main_v3

/-- After the SparseCore call: the gathered rows in its result. -/
def W2 (d : Dev nD) : Valuation τ sig (Elt F) := Function.update (W1 m d) main_v3 (gatB (ftB m) (fiB m) d)
/-- Before the TensorCore region. -/
def W3 (d : Dev nD) : Valuation τ sig (Elt F) := hop5.result (hop4.result (hop3.result (W2 m d)))
/-- The region's final state. -/
def fin (d : Dev nD) : Vec F S2048x256 .f32 := (stN (F := F) (fun c b => W3 m c b) d 200).2
/-- After it. -/
def W4 (d : Dev nD) : Valuation τ sig (Elt F) :=
  Function.update (Function.update (Function.update (W3 m d) main_v7_0 (k1_pay3 (fin m d))) main_v7_1 (k1_pay4 (fin m d))) main_v7_2 (k1_pay5 (fin m d))
/-- At the end. -/
def W5 (d : Dev nD) : Valuation τ sig (Elt F) := hop6.result (W4 m d)

/-! ## A host operation's step -/

theorem host_step (d : Dev nD) (op : HloOp τ sig (Elt F)) (hS : op.bufs ⊆ StableHlo.tcRefs τ sig) (hf : op.fresh = ∅) (W : Valuation τ sig (Elt F))
    {Q : PUnit → sProp 𝕄} :
    iprop(boundary (T d) ∗ (held (T d) ucRefs W : sProp 𝕄))
      ⊢ iprop(((boundary (T d) ∗ (held (T d) ucRefs (op.result W) : sProp 𝕄)) -∗ Q ⟨⟩)
        -∗ wp frame (wpE ((K (F := F)).defs (D (F := F))) 𝒱 (T d) none) Set.univ (hlo rfl op fun _ => .ret ⟨⟩) Q) := by
  iintro ⟨Hb, Hh⟩ Hk
  iapply (StableHlo.wp_hlo_within 𝒱 (T d) none Set.univ (sub_ucRefs op hS) hf) $$ [Hb Hh]
  · isplitl [Hb]; · iexact Hb
    iexact Hh
  iintro ⟨Hb, Hh⟩
  rw [wp_ret]; imodintro
  iapply Hk
  isplitl [Hb]; · iexact Hb
  iexact Hh

/-! ## The SparseCore call's arrays, split over the workers -/

/-- The thirty-two workers as sixteen subcores on each of two SparseCores. -/
theorem workers (Φ : ℕ → sProp 𝕄) :
    (bigSep Finset.univ fun c : Fin 2 => bigSep Finset.univ fun i : Fin 16 => Φ (2 * i.val + c.val)) = bigSep Finset.univ fun w : Fin 32 => Φ w.val := by
  rw [bigSep_univ_comm (fun (c : Fin 2) (i : Fin 16) => Φ (2 * i.val + c.val)),
    bigSep_univ_equiv (finProdFinEquiv : Fin 16 × Fin 2 ≃ Fin (16 * 2)) (fun w : Fin 32 => Φ w.val), bigSep_univ_prod]
  exact bigSep_congr fun i _ => bigSep_congr fun c _ => congrArg Φ (Nat.add_comm _ _)

theorem iSet_cover : (Finset.univ : Finset (Fin 32)).biUnion (fun w => iSet w.val) = Finset.univ :=
  Finset.eq_univ_iff_forall.mpr fun x => Finset.mem_biUnion.mpr ⟨(x 0 : Fin 32), Finset.mem_univ _, Finset.mem_filter.mpr ⟨Finset.mem_univ _, rfl⟩⟩

theorem oSet_cover : (Finset.univ : Finset (Fin 32)).biUnion (fun w => oSet w.val) = Finset.univ :=
  Finset.eq_univ_iff_forall.mpr fun x => Finset.mem_biUnion.mpr ⟨(⟨(x 0).val / 12800, by
    have : (x 0).val < 409600 := (x 0).isLt
    omega⟩ : Fin 32), Finset.mem_univ _, Finset.mem_filter.mpr ⟨Finset.mem_univ _, rfl⟩⟩

theorem iPts_all (fi : (d : Dev nD) → Buf (Elt F) (iLoc d)) (d : Dev nD) :
    (iLoc d ↦{fullShare} fi d : sProp 𝕄) = bigSep Finset.univ fun w : Fin 32 => iPts fi d w.val := by
  rw [← pointsTo_biUnion Finset.univ (ℓ := iLoc d) (fun w : Fin 32 => iSet w.val) (fun a _ b _ h => Finset.disjoint_left.mpr fun x hx hy => h (Fin.ext
    ((Finset.mem_filter.mp hx).2.symm.trans (Finset.mem_filter.mp hy).2)))]
  rw [iSet_cover]; try rfl

theorem oPts_all (d : Dev nD) (f : Buf (Elt F) (oLoc d)) :
    (oLoc d ↦{fullShare} f : sProp 𝕄) = bigSep Finset.univ fun w : Fin 32 => oPts d w.val f := by
  rw [← pointsTo_biUnion Finset.univ (ℓ := oLoc d) (fun w : Fin 32 => oSet w.val) (fun a _ b _ h => Finset.disjoint_left.mpr fun x hx hy => h (Fin.ext
    ((Finset.mem_filter.mp hx).2.symm.trans (Finset.mem_filter.mp hy).2)))]
  rw [oSet_cover]; try rfl

theorem xPts_all (ft : (d : Dev nD) → Buf (Elt F) (xLoc d)) (d : Dev nD) :
    (xLoc d ↦{fullShare} ft d : sProp 𝕄) = bigSep Finset.univ fun w : Fin 32 => xPts ft d w.val := by
  refine (ShareLeaves.pointsTo_leaves Finset.univ (ft d) 5 fullShare).trans (bigSep_congr fun w _ => ?_)
  have hw : w = ⟨w.val % 32, Nat.mod_lt _ (by decide)⟩ := Fin.ext (Nat.mod_eq_of_lt w.isLt).symm
  exact congrArg (fun i : Fin (2 ^ 5) => (xLoc d ↦{ShareLeaves.leaf 5 fullShare i} ft d : sProp 𝕄)) hw

section Parts

variable (ft : (d : Dev nD) → Buf (Elt F) (xLoc d)) (fi : (d : Dev nD) → Buf (Elt F) (iLoc d)) (fo : (d : Dev nD) → Buf (Elt F) (oLoc d))

theorem st_all (d : Dev nD) : (bigSep Finset.univ fun c : Fin ((K (F := F)).nCore 0) => (P ft fi fo).st 0 d c)
    = iprop((iLoc d ↦{fullShare} fi d) ∗ (xLoc d ↦{fullShare} ft d) ∗ oLoc d ↦{fullShare} fo d) := by
  rw [iPts_all, xPts_all, oPts_all, ← bigSep_sep', ← bigSep_sep']
  exact workers (fun w => goW ft fi fo d w)

theorem dn_all (d : Dev nD) : (bigSep Finset.univ fun c : Fin ((K (F := F)).nCore 0) => (P ft fi fo).dn 0 d c)
    = iprop((iLoc d ↦{fullShare} fi d) ∗ (xLoc d ↦{fullShare} ft d) ∗ oLoc d ↦{fullShare} gatB ft fi d) := by
  rw [iPts_all, xPts_all, oPts_all, ← bigSep_sep', ← bigSep_sep']
  exact workers (fun w => tdW ft fi d w)

end Parts

/-- The three arrays the SparseCore call takes. -/
def scRefs : Finset (DevRef τ sig) := {Proc.devRef .tc main_v2, Proc.devRef .tc main_arg2, Proc.devRef .tc main_v3}

theorem scRefs_sub : scRefs ⊆ ucRefs := by
  intro b hb
  simp only [scRefs, Finset.mem_insert, Finset.mem_singleton] at hb
  rcases hb with rfl | rfl | rfl
  · exact mem_ucRefs main_v2 rfl
  · exact mem_ucRefs main_arg2 rfl
  · exact mem_ucRefs main_v3 rfl

theorem held_scRefs (d : Dev nD) (W : Valuation τ sig (Elt F)) :
    (held (T d) scRefs W : sProp 𝕄) = iprop((iLoc d ↦{fullShare} W main_v2) ∗ (xLoc d ↦{fullShare} W main_arg2) ∗ oLoc d ↦{fullShare} W main_v3) := by
  have n1 : Proc.devRef (τ := τ) .tc main_v2 ≠ Proc.devRef .tc main_arg2 := StableHlo.devRef_ne_of_ne (by decide)
  have n2 : Proc.devRef (τ := τ) .tc main_v2 ≠ Proc.devRef .tc main_v3 := StableHlo.devRef_ne_of_ne (by decide)
  have n3 : Proc.devRef (τ := τ) .tc main_arg2 ≠ Proc.devRef .tc main_v3 := StableHlo.devRef_ne_of_ne (by decide)
  unfold StableHlo.held scRefs
  rw [SparseCore.bigSep_insert' (by simp [n1, n2]), SparseCore.bigSep_insert' (by simp [n3]), bigSep_singleton]

theorem W2_v3 (d : Dev nD) : W2 m d main_v3 = gatB (ftB m) (fiB m) d := Function.update_self ..
theorem W2_ne (d : Dev nD) {b : DevRef τ sig} (h : b ≠ Proc.devRef .tc main_v3) : W2 m d b = W1 m d b := Function.update_of_ne h ..

/-- The arrays the call takes, out of the valuation before it; -/
theorem sc_out (d : Dev nD) : (held (T d) ucRefs (W1 m d) : sProp 𝕄)
    = iprop((bigSep Finset.univ fun c : Fin ((K (F := F)).nCore 0) => (P (ftB m) (fiB m) (foB m)).st 0 d c) ∗ held (T d) (ucRefs \ scRefs) (W1 m d)) := by
  rw [StableHlo.held_sub_split (T d) scRefs_sub, held_scRefs, st_all]; rfl

/-- and back, into the valuation after it. -/
theorem sc_in (d : Dev nD) : (held (T d) ucRefs (W2 m d) : sProp 𝕄)
    = iprop((bigSep Finset.univ fun c : Fin ((K (F := F)).nCore 0) => (P (ftB m) (fiB m) (foB m)).dn 0 d c) ∗ held (T d) (ucRefs \ scRefs) (W1 m d)) := by
  have n2 : Proc.devRef (τ := τ) .tc main_v2 ≠ Proc.devRef .tc main_v3 := StableHlo.devRef_ne_of_ne (by decide)
  have n3 : Proc.devRef (τ := τ) .tc main_arg2 ≠ Proc.devRef .tc main_v3 := StableHlo.devRef_ne_of_ne (by decide)
  have hc : (held (T d) (ucRefs \ scRefs) (W2 m d) : sProp 𝕄) = held (T d) (ucRefs \ scRefs) (W1 m d) :=
    StableHlo.held_congr (T d) fun b hb => W2_ne m d fun h => (Finset.mem_sdiff.mp hb).2 (by rw [h]; simp [scRefs])
  rw [StableHlo.held_sub_split (T d) scRefs_sub, held_scRefs, dn_all, hc, W2_v3, W2_ne m d n2, W2_ne m d n3]; rfl

/-! ## The launch's ghost state -/

abbrev EP : Emb UP (MT nD τ sig (HIx 1) (Elt F) ℕ UU ℕ) := (Emb.inl : Emb UP (UP × Counters)).trans embR

theorem phinj : Function.Injective (cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) phinj) (Pipeline.launchToks (Pipeline.pin (pcfgs (F := F)) adm) phinj), 1))

/-- What the region's pipeline is dealt on core `d`. -/
def G (d : Dev nD) : sProp 𝕄 :=
  iprop(Pipeline.cellsGhost (Pipeline.pin (pcfgs (F := F)) adm) EP 0 d ∗ Pipeline.toksInit (Pipeline.pin (pcfgs (F := F)) adm) EP 0 d)

theorem emp_all {I : Type} (s : Finset I) : (bigSep s fun _ => iprop(emp)) = (iprop(emp) : sProp 𝕄) := bigSep_emp_const s

theorem hu₀ (P' : (K (F := F)).Pay (nD := nD) (Val := Elt F) (Name := ℕ) (U := UU)) (hx : ∀ q thr, P'.x q thr = iprop(emp)) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => P'.x q thr) := by
  unfold u₀
  iintro Hu
  ihave H := (ownU_pair (initOf (K (F := F)).hsCells (K (F := F)).hsToks) _) $$ Hu
  icases H with ⟨HH, HR⟩
  ihave H := (own_pair_emb embR _ (1 : Counters)) $$ HR
  icases H with ⟨HP, -⟩
  imod (Pipeline.fund_ghost (Pipeline.pin (pcfgs (F := F)) adm) EP phinj) $$ HP with ⟨Hg, Ht⟩
  imodintro
  isplitl [HH]; · iexact HH
  isplitl [Hg Ht]
  · simp only [G, bigSep_sep', bigSep_univ_of_subsingleton (0 : Fin 1)]
    isplitl [Hg] <;> iassumption
  rw [show (bigSep Finset.univ fun thr : Thread nD τ => bigSep Finset.univ fun q : Fin 1 => P'.x q thr) = bigSep Finset.univ fun _ => iprop(emp) from
    bigSep_congr fun thr _ => (bigSep_univ_of_subsingleton (0 : Fin 1)).trans (hx 0 thr), emp_all]
  iempintro

/-! ## @main on the TensorCore -/

theorem W4_v7_0 (d : Dev nD) : W4 m d main_v7_0 = k1_pay3 (fin m d) := by
  unfold W4
  rw [Function.update_of_ne (StableHlo.devRef_ne_of_ne (by decide)), Function.update_of_ne (StableHlo.devRef_ne_of_ne (by decide)), Function.update_self]
theorem W4_v7_1 (d : Dev nD) : W4 m d main_v7_1 = k1_pay4 (fin m d) := by
  unfold W4
  rw [Function.update_of_ne (StableHlo.devRef_ne_of_ne (by decide)), Function.update_self]
theorem W4_v7_2 (d : Dev nD) : W4 m d main_v7_2 = k1_pay5 (fin m d) := by
  unfold W4
  rw [Function.update_self]
theorem W4_ne (d : Dev nD) (b : Ref sig .tc) (h0 : b ≠ main_v7_0) (h1 : b ≠ main_v7_1) (h2 : b ≠ main_v7_2) : W4 m d b = W3 m d b := by
  unfold W4
  rw [Function.update_of_ne (StableHlo.devRef_ne_of_ne h2), Function.update_of_ne (StableHlo.devRef_ne_of_ne h1), Function.update_of_ne (StableHlo.devRef_ne_of_ne h0)]

/-- The region's record at this run's valuations. -/
def mreg : Pipeline.RegionSeg (pcfgs (F := F)) adm (pdats fun c b => W3 m c b) none defs₀ 𝒱₀ (K (F := F)).L (K (F := F)).lev 0 :=
  reg (fun c b => W3 m c b) (fun c b => W4 m c b) (W4_v7_0 m) (W4_v7_1 m) (W4_v7_2 m) (W4_ne m)

/-- The region's step. -/
theorem region_step (d : Dev nD) {Q : PUnit → sProp 𝕄} :
    iprop(boundary (T d) ∗ held (T d) ucRefs (W3 m d) ∗ owe (F := F) d ∗ levAts (K (F := F)).L (K (F := F)).lev ∗ G (F := F) d)
      ⊢ iprop(((boundary (T d) ∗ held (T d) ucRefs (W4 m d) ∗ owe (F := F) d) -∗ Q ⟨⟩)
        -∗ wp frame (wpE ((K (F := F)).defs (D (F := F))) 𝒱 (T d) none) Set.univ (Prog.lift (.customCall (SparseCore.inner (Pipeline.entry 0)) ())) Q) := by
  have h := (Pipeline.RegionSeg.wp (pcfgs (F := F)) adm (pdats fun c b => W3 m c b) none phinj EP defs₀ 𝒱₀ (K (F := F)).L (K (F := F)).lev (mreg m) d none
    (fun _ h => nomatch h) (fun _ => .ret ⟨⟩) Q).trans ((K (F := F)).wp_liftProg (D (F := F)) 𝒱 (T d) Set.univ none _ _)
  have hpre : (mreg m).pre d = iprop(held (T d) ucRefs (W3 m d) ∗ owe (F := F) d) := by
    rw [← unscopedBufs_held]; rfl
  have hpost : (mreg m).post d = iprop(held (T d) ucRefs (W4 m d) ∗ owe (F := F) d) := by
    rw [← unscopedBufs_held]; rfl
  rw [hpre, hpost] at h
  iintro ⟨Hb, Hh, Ho, Hl, HG⟩ Hk
  iapply h
  isplitl [Hk]
  · iintro ⟨Hb, Hh, Ho⟩
    rw [wp_ret]; imodintro
    iapply Hk
    isplitl [Hb]; · iexact Hb
    isplitl [Hh] <;> iassumption
  isplitl [Hb]; · iexact Hb
  isplitl [Hh Ho]; · isplitl [Hh] <;> iassumption
  isplitl [Hl]; · iexact Hl
  unfold G
  iexact HG

/-- What the run ends with on device `d`: every unscoped buffer at the last valuation. -/
abbrev FIN (d : Dev nD) : sProp 𝕄 := held (T d) ucRefs (W5 m d)

/-- The TensorCore's state after the SparseCore call: what it owes, and the rest of it. -/
theorem tcSt_one (d : Dev nD) : ∃ R : sProp 𝕄, (K (F := F)).tcSt EH d 1 = iprop(owe (F := F) d ∗ R) := by
  unfold SparseCore.Cfg.tcSt owe
  rw [(K (F := F)).Otc_end d (le_refl 1)]
  exact ⟨_, rfl⟩

theorem hmain (κ : GSem nD τ sig → ℕ) (d : Dev nD) :
    iprop((K (F := F)).ctx EH (P (ftB m) (fiB m) (foB m)) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  have h0 : (unscopedBufs d (fun b => m ((SparseCore.T d).loc b)) : sProp 𝕄) = held (T d) ucRefs (W0 m d) := unscopedBufs_held d (W0 m d)
  rw [h0]
  obtain ⟨R, hR⟩ := tcSt_one (F := F) d
  have h1 : (held (T d) ucRefs (hop2.result (hop1.result (hop0.result (W0 m d)))) : sProp 𝕄) ⊢ _ := Entails.of_eq (sc_out m d)
  have h3 : (held (T d) ucRefs (hop5.result (hop4.result (hop3.result (W2 m d)))) : sProp 𝕄) ⊢ held (T d) ucRefs (W3 m d) := Entails.of_eq rfl
  have h5 : (held (T d) ucRefs (hop6.result (W4 m d)) : sProp 𝕄) ⊢ FIN m d := Entails.of_eq rfl
  have hR' : (K (F := F)).tcSt EH d ((0 : Fin 1).val + 1) ⊢ iprop(owe (F := F) d ∗ R) := Entails.of_eq hR
  simp only [main, wp_bind, wp_pure]
  iintro ⟨#Hctx, Hst, ⟨Hb, Hh, Hts, -⟩, HG⟩
  iapply (host_step d hop0 (StableHlo.binary_bufs_sub ..) rfl (W0 m d)) $$ [Hb Hh]
  · isplitl [Hb] <;> iassumption
  iintro ⟨Hb, Hh⟩
  iapply (host_step d hop1 (StableHlo.unary_bufs_sub ..) rfl _) $$ [Hb Hh]
  · isplitl [Hb] <;> iassumption
  iintro ⟨Hb, Hh⟩
  iapply (host_step d hop2 (StableHlo.reshape_bufs_sub ..) rfl _) $$ [Hb Hh]
  · isplitl [Hb] <;> iassumption
  iintro ⟨Hb, Hh⟩
  ihave H := h1 $$ Hh
  icases H with ⟨Hs, Hrest⟩
  iapply ((K (F := F)).wp_run (D (F := F)) 𝒱 (EH := EH) (P := P (ftB m) (fiB m) (foB m)) κ d 0) $$ [Hst Hs Hb Hrest Hts HG]
  isplitr; · iexact Hctx
  isplitl [Hst]; · iexact Hst
  isplitl [Hs]; · iexact Hs
  iintro ⟨Hst, Hdn⟩
  ihave Hh := (Entails.of_eq (sc_in m d).symm) $$ [Hdn Hrest]
  · isplitl [Hdn] <;> iassumption
  iapply (host_step d hop3 (StableHlo.reshape_bufs_sub ..) rfl (W2 m d)) $$ [Hb Hh]
  · isplitl [Hb] <;> iassumption
  iintro ⟨Hb, Hh⟩
  iapply (host_step d hop4 (StableHlo.reshape_bufs_sub ..) rfl _) $$ [Hb Hh]
  · isplitl [Hb] <;> iassumption
  iintro ⟨Hb, Hh⟩
  iapply (host_step d hop5 (StableHlo.reshape_bufs_sub ..) rfl _) $$ [Hb Hh]
  · isplitl [Hb] <;> iassumption
  iintro ⟨Hb, Hh⟩
  ihave Hh := h3 $$ Hh
  ihave Hst' := hR' $$ Hst
  icases Hst' with ⟨Ho, HR⟩
  ihave Hl := (SparseCore.Cfg.ctx_levAts κ) $$ Hctx
  iapply (region_step m d) $$ [Hb Hh Ho Hl HG]
  · isplitl [Hb]; · iexact Hb
    isplitl [Hh]; · iexact Hh
    isplitl [Ho]; · iexact Ho
    isplitl [Hl]; · iexact Hl
    iexact HG
  iintro ⟨Hb, Hh, Ho⟩
  iapply (host_step d hop6 (StableHlo.reshape_bufs_sub ..) rfl (W4 m d)) $$ [Hb Hh]
  · isplitl [Hb] <;> iassumption
  iintro ⟨Hb, Hh⟩
  imodintro
  isplitl [Ho HR]
  · iapply (Entails.of_eq hR.symm)
    isplitl [Ho] <;> iassumption
  isplitl [Hh]; · iapply h5; iexact Hh
  isplitl [Hb] <;> iassumption

/-! ## The run -/

/-- What a final state's memory holds on device `d`. -/
def fq (d : Dev nD) (s' : Phys nD τ sig (Elt F)) : Prop := ∀ b : {b : DevRef τ sig // b ∈ ucRefs}, s'.mem.mem (d, b.1) = W5 m d b.1

theorem hfin (d : Dev nD) (s' : Phys nD τ sig (Elt F)) : iprop(FIN m d ∗ SI s') ⊢ (⌜fq m d s'⌝ : sProp 𝕄) := by
  refine (Laws.forall_intro fun b => ?_).trans Laws.pure_forall.2
  unfold FIN StableHlo.held
  have he : (bigSep ucRefs (fun b : DevRef τ sig => (((d, b) : Loc nD τ sig) ↦{fullShare} W5 m d b : sProp 𝕄)) : sProp 𝕄) ⊢ (((d, b.1) : Loc nD τ sig) ↦{fullShare} W5 m d b.1 : sProp 𝕄) :=
    bigSep_elim (Φ := fun b : DevRef τ sig => (((d, b) : Loc nD τ sig) ↦{fullShare} W5 m d b : sProp 𝕄)) b.2
  iintro ⟨H, HSI⟩
  ihave Hi := he $$ H
  ihave H := (SI_pointsTo_agree (st := s') (ℓ := (d, b.1)) (I := Finset.univ) (q := fullShare) (f := W5 m d b.1)) $$ [HSI Hi]
  · isplitl [HSI] <;> iassumption
  icases H with %h1
  ipureintro; exact funext fun i => h1 i (Finset.mem_univ i)

def QC : PUnit × MemSt nD τ sig (Elt F) → Prop := fun r =>
  (∀ (c : Dev nD) (b : Ref sig .tc), b.isScoped = false → r.2.mem ((c : Thread nD τ).loc b) = W5 m c b) ∧ r.2.sem = fun _ => 0

theorem run_main [∀ e, Nonempty (Elt F e)] (hpre : PreOK (fiB m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ftB m) (fiB m) (foB m)) (A := ∅) facts v₀
    (fun q hq => match q with | 0 => nomatch hq)
    (fun q _ => match q with | 0 => tileObl (ftB m) (fiB m) (foB m) facts hpre)
    (fun q _ => match q with | 0 => SparseCore.Cfg.VecSplit.of_plain (vecSplit (ftB m) (fiB m) (foB m)))
    m ρ main (fun d => G (F := F) d) (FIN m) (u₀ (F := F)) (sep_elim_left.trans (hu₀ _ fun _ _ => rfl)) (hmain m ρ) (fq m) (hfin m) (QC m)
    (fun _ h hz => ⟨fun c b hb => h c ⟨Proc.devRef .tc b, mem_ucRefs b hb⟩, hz⟩)

end Cert.Proof.Lstm

end
-- ==== Proof.Readback.lean ====
/-
  What the valuations of the run hold at the buffers that matter: the arguments unchanged, the row numbers and the
  gathered rows read at an index, and the results. Then the precondition as the bound on the row numbers that the
  SparseCore call needs, and the kernel's frame.
-/
module

public import proofs.«01_k».proof.Proof.Main
public import proofs.«01_k».proof.Proof.Gen.Pre_idx_in_vocab
public import proofs.«01_k».proof.Defs
public import Idealize.ShloMosaic.Lib.Pointwise
public import Idealize.ShloMosaic.Lib.ReduceAll

@[expose] public section

noncomputable section

namespace Cert.Proof.Lstm

open Cert.KernelIdeal Cert.KernelIdeal.Gen

open Idealize.ShloMosaic
open Idealize.ShloMosaic.TcCoe Idealize.ShloMosaic.Tactic
open Idealize.ShloMosaic.SparseCore (S T)
open Idealize.SL Idealize.SL.Sem

variable {F : FTy → Type} [FloatOps F]
variable (m : (ℓ : Loc nD τ sig) → Buf (Elt F) ℓ)

/-! ## Buffers a stretch does not write -/

theorem W1_ne (d : Dev nD) (b : Ref sig .tc) (h0 : b ≠ main_v0) (h1 : b ≠ main_v1) (h2 : b ≠ main_v2) : W1 m d b = W0 m d b :=
  (StableHlo.reshape_result_ne _ _ _ _ _ _ _ h2).trans ((StableHlo.unary_result_ne _ _ _ _ _ _ h1).trans (StableHlo.binary_result_ne _ _ _ _ _ _ _ _ h0))

theorem W3_ne (d : Dev nD) (b : Ref sig .tc) (h4 : b ≠ main_v4) (h5 : b ≠ main_v5) (h6 : b ≠ main_v6) : W3 m d b = W2 m d b :=
  (StableHlo.reshape_result_ne _ _ _ _ _ _ _ h6).trans ((StableHlo.reshape_result_ne _ _ _ _ _ _ _ h5).trans (StableHlo.reshape_result_ne _ _ _ _ _ _ _ h4))

/-- A buffer that no host operation and no call writes ends as it began. -/
theorem W3_input (d : Dev nD) (b : Ref sig .tc) (h : b ∉ [main_v0, main_v1, main_v2, main_v3, main_v4, main_v5, main_v6]) :
    W3 m d b = m (d, Proc.devRef .tc b) := by
  simp only [List.mem_cons, List.not_mem_nil, or_false, not_or] at h
  obtain ⟨h0, h1, h2, h3, h4, h5, h6⟩ := h
  rw [W3_ne m d b h4 h5 h6, W2_ne m d (StableHlo.devRef_ne_of_ne h3), W1_ne m d b h0 h1 h2]; rfl

theorem W5_input (d : Dev nD) (b : Ref sig .tc)
    (h : b ∉ [main_v0, main_v1, main_v2, main_v3, main_v4, main_v5, main_v6]) (h' : b ∉ [main_v7_0, main_v7_1, main_v7_2, main_v8]) :
    W5 m d b = m (d, Proc.devRef .tc b) := by
  simp only [List.mem_cons, List.not_mem_nil, or_false, not_or] at h'
  obtain ⟨h0, h1, h2, h3⟩ := h'
  exact (StableHlo.reshape_result_ne _ _ _ _ _ _ _ h3).trans ((W4_ne m d b h0 h1 h2).trans (W3_input m d b h))

/-! ## The results -/

theorem W5_v7_0 (d : Dev nD) : W5 m d main_v7_0 = k1_pay3 (fin m d) :=
  (StableHlo.reshape_result_ne _ _ _ _ _ _ _ (by decide)).trans (W4_v7_0 m d)
theorem W5_v7_1 (d : Dev nD) : W5 m d main_v7_1 = k1_pay4 (fin m d) :=
  (StableHlo.reshape_result_ne _ _ _ _ _ _ _ (by decide)).trans (W4_v7_1 m d)
theorem W5_v8 (d : Dev nD) : W5 m d main_v8 = shapeCast S1024 (k1_pay5 (fin m d)) shapeCasts_S1024x1_S1024 :=
  (StableHlo.reshape_result _ _ _ _ _ _ _).trans (by rw [W4_v7_2]; rfl)

/-! ## The row numbers -/

/-- The row number that row `r` of the two batches laid end to end has at step `t`. -/
def tok (d : Dev nD) (t : Fin 200) (r : Fin 2048) : BitVec 32 :=
  if h : r.val < 1024 then (m (d, Proc.devRef .tc main_arg0) : S1024x200.Idx → BitVec 32) (ix2 ⟨r.val, h⟩ t)
  else (m (d, Proc.devRef .tc main_arg1) : S1024x200.Idx → BitVec 32) (ix2 ⟨r.val - 1024, by omega⟩ t)

theorem W1_v1 (d : Dev nD) : (W1 m d main_v1 : S200x2048.Idx → BitVec 32) = fun y => tok m d (y 0) (y 1) := by
  have h : W1 m d main_v1 = transpose S200x2048 [1, 0] (concatenate S2048x200 0
      [⟨S1024x200, m (d, Proc.devRef .tc main_arg0)⟩, ⟨S1024x200, m (d, Proc.devRef .tc main_arg1)⟩] concatenates_S1024x200_S1024x200_S2048x200_d0)
      transposes_S2048x200_S200x2048_1_0 :=
    (StableHlo.reshape_result_ne _ _ _ _ _ _ _ (by decide)).trans ((StableHlo.unary_result _ _ _ _ _ _).trans
      (by rw [StableHlo.binary_result]; rfl))
  refine h.trans (funext fun y => ?_)
  unfold tok
  pointwise

/-- A reshape of the 200 × 2048 array of row numbers reads the word at the same position in row-major order. -/
theorem tok_at (d : Dev nD) {T : Shape} (h : S200x2048.ShapeCasts T) (y : T.Idx) (t : Fin 200) (r : Fin 2048)
    (hy : t.val * 2048 + r.val = (T.rowMajor y).val) : shapeCast T (W1 m d main_v1 : S200x2048.Idx → BitVec 32) h y = tok m d t r := by
  rw [W1_v1]
  exact shapeCast_apply _ h y (ix2 t r) ((Shape.rowMajor_val_two _).trans hy)

/-- The row numbers as the SparseCore call finds them. -/
theorem fiB_apply (d : Dev nD) (y : S32x100x128.Idx) :
    fiB m d y = tok m d ⟨((y 0).val * 12800 + (y 1).val * 128 + (y 2).val) / 2048, by
        have h0 : (y 0).val < 32 := (y 0).isLt
        have h1 : (y 1).val < 100 := (y 1).isLt
        have h2 : (y 2).val < 128 := (y 2).isLt
        omega⟩ ⟨((y 0).val * 12800 + (y 1).val * 128 + (y 2).val) % 2048, by omega⟩ := by
  have h : fiB m d = shapeCast S32x100x128 (W1 m d main_v1 : S200x2048.Idx → BitVec 32) shapeCasts_S200x2048_S32x100x128 := by
    have e : W1 m d main_v1 = hop1.result (hop0.result (W0 m d)) main_v1 := StableHlo.reshape_result_ne main_v1 main_v2 _ _ _ _ _ (by decide)
    rw [e]
    show W1 m d main_v2 = _
    refine (StableHlo.reshape_result main_v1 main_v2 _ _ _ _ (hop1.result (hop0.result (W0 m d)))).trans ?_
    rfl
  rw [h]
  refine tok_at m d _ y _ _ ?_
  rw [Shape.rowMajor_val_three]
  show _ = ((y 0).val * 100 + (y 1).val) * 128 + (y 2).val
  simp only []
  omega

/-! ## The precondition -/

/-- What the precondition says of the two arrays of row numbers: each word names a row of the table. -/
theorem bound_of_pre (a0 a1 : IVec S1024x200 32) (a2 : FVec F S100001x128 .f32) (a3 : FVec F S128x1024 .f32) (a4 : FVec F S256x1024 .f32)
    (a5 : FVec F S1024 .f32) (h : Cert.Pre_idx_in_vocab.fn a0 a1 a2 a3 a4 a5 = fun _ => 1#1) (i : S1024x200.Idx) :
    (a0 i).toNat < 100001 ∧ (a1 i).toNat < 100001 := by
  have andi_one : ∀ p q : BitVec 1, IntOp.andi p q = 1#1 → p = 1#1 ∧ q = 1#1 := by decide
  have ofBool_one (p : Bool) : (BitVec.ofBool p = 1#1) ↔ p = true := by cases p <;> decide
  have word (v : BitVec 32) (e : IntOp.andi (IntOp.cmpi .sge v 0#32) (IntOp.cmpi .sle v 100000#32) = 1#1) : v.toNat < 100001 := by
    obtain ⟨e1, e2⟩ := andi_one _ _ e
    simp only [IntOp.cmpi, ofBool_one, BitVec.sle_eq_decide, decide_eq_true_eq, BitVec.toInt_eq_toNat_cond, BitVec.toNat_ofNat] at e1 e2
    omega
  haveI : Subsingleton Cert.Pre_idx_in_vocab.S_.Idx := ⟨fun a b => funext fun k => k.elim0⟩
  have e := congrFun h ix0
  obtain ⟨e0, e1⟩ := andi_one _ _ e
  exact ⟨word _ (Host.reduce_andi_all _ _ _ _ _ e0 i), word _ (Host.reduce_andi_all _ _ _ _ _ e1 i)⟩

/-- The row numbers are in range. -/
def InRange : Prop := ∀ (d : Dev nD) (t : Fin 200) (r : Fin 2048), (tok m d t r).toNat < 100001

theorem preOK (h : InRange m) : PreOK (fiB m) := fun d y => by rw [fiB_apply]; exact h d _ _

theorem inRange (h : ∀ d : Dev nD, Cert.Pre_idx_in_vocab.fn (F := F) (m (d, Proc.devRef .tc main_arg0)) (m (d, Proc.devRef .tc main_arg1))
    (m (d, Proc.devRef .tc main_arg2)) (m (d, Proc.devRef .tc main_arg3)) (m (d, Proc.devRef .tc main_arg4)) (m (d, Proc.devRef .tc main_arg5)) = fun _ => 1#1) :
    InRange m := fun d t r => by
  unfold tok
  split
  · exact (bound_of_pre _ _ _ _ _ _ (h d) _).1
  · exact (bound_of_pre _ _ _ _ _ _ (h d) _).2

/-! ## The frame -/

/-- The program runs, leaves its arguments and brings every counter back to zero. -/
theorem frame_run [∀ e, Nonempty (Elt F e)] (ρ : Dev nD → PrngReg) (h : InRange m) :
    θ_run (Cert.KernelIdeal.defs (F := F)) (Cert.KernelIdeal.threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun _ hr => ⟨fun c =>
      ⟨(hr.1 c main_arg0 rfl).trans (W5_input m c main_arg0 (by decide) (by decide)),
        (hr.1 c main_arg1 rfl).trans (W5_input m c main_arg1 (by decide) (by decide)),
        (hr.1 c main_arg2 rfl).trans (W5_input m c main_arg2 (by decide) (by decide)),
        (hr.1 c main_arg3 rfl).trans (W5_input m c main_arg3 (by decide) (by decide)),
        (hr.1 c main_arg4 rfl).trans (W5_input m c main_arg4 (by decide) (by decide)),
        (hr.1 c main_arg5 rfl).trans (W5_input m c main_arg5 (by decide) (by decide))⟩, hr.2⟩)
    (run_main m ρ (preOK m h))

theorem frame_ideal : Cert.quiescent_KernelIdeal := fun m ρ h => frame_run m ρ (inRange m fun d => h d)

end Cert.Proof.Lstm

end
-- ==== Proof.RefFrame.lean ====
/-
  The reference's frame: its run leaves the arguments as they were, and it declares no semaphore.
-/
module

public import proofs.«01_k».proof.Defs
public import proofs.«01_k».proof.Proof.Gen.Pre_idx_in_vocab
public import proofs.«01_k».proof.Proof.Gen.ReferenceIdeal.Run
public import Idealize.ShloMosaic.Lib.Quiescent

@[expose] public section

noncomputable section

namespace Cert.Proof.Ref

open Idealize.ShloMosaic Idealize.SL.Sem

/-- The reference runs, leaves its arguments, and has no counter to leave. -/
theorem frame_ref : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

end Cert.Proof.Ref

end
-- ==== Proof.Cell.lean ====
/-
  One row of the recurrence, as plain mathematics: the four gates of a cell, the step that a masked
  token leaves alone, and the states after `n` steps from zero.
-/
module

public import Idealize.ShloMosaic.PureOps.Ideal

@[expose] public section

open Idealize.ShloMosaic

noncomputable section

namespace Cert.Proof.Cell

/-- The gates' preactivations of one row: the input and the hidden state through their weights, and the bias. -/
def gates (w : Fin 128 → Fin 1024 → EReal) (u : Fin 256 → Fin 1024 → EReal) (b : Fin 1024 → EReal)
    (x : Fin 128 → EReal) (h : Fin 256 → EReal) (k : Fin 1024) : EReal :=
  (∑ e, x e * w e k) + (∑ e, h e * u e k) + b k

/-- The new cell of the gates and the old cell. -/
def newC (g : Fin 1024 → EReal) (c : Fin 256 → EReal) (j : Fin 256) : EReal :=
  Ideal.logistic (g ⟨256 + j.val, by omega⟩) * c j
    + Ideal.logistic (g ⟨j.val, by omega⟩) * Ideal.tanh (g ⟨512 + j.val, by omega⟩)

/-- The new hidden state of the gates and the new cell. -/
def newH (g : Fin 1024 → EReal) (c : Fin 256 → EReal) (j : Fin 256) : EReal :=
  Ideal.logistic (g ⟨768 + j.val, by omega⟩) * Ideal.tanh (newC g c j)

/-- The states of one row after `n` steps: hidden and cell, from zero, a step whose mask bit is off changing neither. -/
def row (w : Fin 128 → Fin 1024 → EReal) (u : Fin 256 → Fin 1024 → EReal) (b : Fin 1024 → EReal)
    (x : ℕ → Fin 128 → EReal) (mk : ℕ → BitVec 1) : ℕ → (Fin 256 → EReal) × (Fin 256 → EReal)
  | 0 => (fun _ => 0, fun _ => 0)
  | n + 1 =>
    let s := row w u b x mk n
    let g := gates w u b (x n) s.1
    (fun j => Scalar.select (mk n) (newH g s.2 j) (s.1 j),
     fun j => Scalar.select (mk n) (newC g s.2 j) (s.2 j))

/-- The mask bit of a token: on when the token is not zero. -/
def onBit (t : BitVec 32) : BitVec 1 := IntOp.cmpi .ne t 0#32

/-- The last cell of one row, of the row's 200 tokens: each step's input is the table's row of the step's token. -/
def last (tb : Fin 100001 → Fin 128 → EReal) (w : Fin 128 → Fin 1024 → EReal) (u : Fin 256 → Fin 1024 → EReal)
    (b : Fin 1024 → EReal) (tk : Fin 200 → BitVec 32) : Fin 256 → EReal :=
  (row w u b (fun t e => tb ⟨(tk ⟨t % 200, Nat.mod_lt _ (by decide)⟩).toNat % 100001, Nat.mod_lt _ (by decide)⟩ e)
    (fun t => onBit (tk ⟨t % 200, Nat.mod_lt _ (by decide)⟩)) 200).2

end Cert.Proof.Cell

end
-- ==== Proof.CellK.lean ====
/-
  The kernel's step read at one row: it is the cell's step of that row.
-/
module

public import proofs.«01_k».proof.Proof.Region
public import proofs.«01_k».proof.Proof.Cell
public import Idealize.ShloMosaic.Lib.Pointwise

@[expose] public section

open Idealize.ShloMosaic

noncomputable section

namespace Cert.Proof.Lstm
open Cert.KernelIdeal Cert.KernelIdeal.Gen Cert.Proof.Cell

theorem gates_apply (x : FVec Ideal S1x2048x128 .f32) (w : FVec Ideal S128x1024 .f32) (h : FVec Ideal S2048x256 .f32)
    (u : FVec Ideal S256x1024 .f32) (b : FVec Ideal S1x1024 .f32) (r : Fin 2048) (k : Fin 1024) :
    k1_pay8 (F := Ideal) x w h u b (ix2 r k)
      = gates (fun e k => w (ix2 e k)) (fun e k => u (ix2 e k)) (fun k => b (ix2 0 k))
          (fun e => x (ix3 0 r e)) (fun e => h (ix2 r e)) k := by
  unfold gates
  pointwise [k1_pay8]

theorem newC_apply (x : FVec Ideal S1x2048x128 .f32) (w : FVec Ideal S128x1024 .f32) (h : FVec Ideal S2048x256 .f32)
    (u : FVec Ideal S256x1024 .f32) (b : FVec Ideal S1x1024 .f32) (c : FVec Ideal S2048x256 .f32) (r : Fin 2048) (j : Fin 256) :
    k1_pay9 (F := Ideal) x w h u b c (ix2 r j)
      = newC (fun k => k1_pay8 (F := Ideal) x w h u b (ix2 r k)) (fun e => c (ix2 r e)) j := by
  unfold newC
  pointwise [k1_pay9]

theorem newH_apply (x : FVec Ideal S1x2048x128 .f32) (w : FVec Ideal S128x1024 .f32) (h : FVec Ideal S2048x256 .f32)
    (u : FVec Ideal S256x1024 .f32) (b : FVec Ideal S1x1024 .f32) (c : FVec Ideal S2048x256 .f32) (r : Fin 2048) (j : Fin 256) :
    k1_pay10 (F := Ideal) x w h u b c (ix2 r j)
      = newH (fun k => k1_pay8 (F := Ideal) x w h u b (ix2 r k)) (fun e => c (ix2 r e)) j := by
  unfold newH
  rw [← newC_apply]
  pointwise [k1_pay10]

theorem maskC_apply (m : IVec S1x2048x1 32) (p q : FVec Ideal S2048x256 .f32) (r : Fin 2048) (j : Fin 256) :
    k1_pay1 (F := Ideal) p q (k1_pay12 (F := Ideal) m) (ix2 r j)
      = Scalar.select (onBit (m (ix3 0 r 0))) (p (ix2 r j)) (q (ix2 r j)) := by
  unfold onBit
  pointwise [k1_pay1, k1_pay12, k1_pay11]

theorem maskH_apply (m : IVec S1x2048x1 32) (p q : FVec Ideal S2048x256 .f32) (r : Fin 2048) (j : Fin 256) :
    k1_pay2 (F := Ideal) p (k1_pay11 (F := Ideal) m) q (ix2 r j)
      = Scalar.select (onBit (m (ix3 0 r 0))) (p (ix2 r j)) (q (ix2 r j)) := by
  unfold onBit
  pointwise [k1_pay2, k1_pay11]

theorem zeroH_apply (i : S2048x256.Idx) : k1_pay6 (F := Ideal) i = 0 := by
  pointwise [k1_pay6]

theorem zeroC_apply (i : S2048x256.Idx) : k1_pay7 (F := Ideal) i = 0 := by
  pointwise [k1_pay7]

/-- The kernel's state after `n` steps, at row `r`: the row's state, of the row's inputs and mask bits. -/
theorem state_row (x : Vec Ideal S200x2048x128 .f32) (m : Vec Ideal S200x2048x1 .i32) (w : Vec Ideal S128x1024 .f32)
    (u : Vec Ideal S256x1024 .f32) (b : Vec Ideal S1x1024 .f32) (r : Fin 2048) (n : ℕ) :
    ((fun j : Fin 256 => ((state x m w u b n).1 (ix2 r j) : EReal)), fun j : Fin 256 => ((state x m w u b n).2 (ix2 r j) : EReal))
      = row (fun e k => w (ix2 e k)) (fun e k => u (ix2 e k)) (fun k => b (ix2 0 k))
          (fun t e => x (ix3 ⟨t % 200, Nat.mod_lt _ (by decide)⟩ r e))
          (fun t => onBit (m (ix3 ⟨t % 200, Nat.mod_lt _ (by decide)⟩ r 0))) n := by
  induction n with
  | zero =>
    rw [state_zero]
    exact Prod.ext (funext fun j => zeroH_apply (ix2 r j)) (funext fun j => zeroC_apply (ix2 r j))
  | succ n ih =>
    have h1 := congrArg Prod.fst ih
    have h2 := congrArg Prod.snd ih
    dsimp only at h1 h2
    rw [state_succ]
    unfold row nextH nextC
    refine Prod.ext (funext fun j => ?_) (funext fun j => ?_)
    · dsimp only
      rw [maskH_apply, newH_apply]
      simp only [gates_apply, ← h1, ← h2]
      rfl
    · dsimp only
      rw [maskC_apply, newC_apply]
      simp only [gates_apply, ← h1, ← h2]
      rfl

end Cert.Proof.Lstm

end
-- ==== Proof.KernelRow.lean ====
/-
  The kernel's last state read at one row: the arrays at the region's entry are the launch's arguments, gathered and
  reshaped, so the row is the last cell of that row's tokens.
-/
module

public import proofs.«01_k».proof.Proof.Readback
public import proofs.«01_k».proof.Proof.CellK

@[expose] public section

noncomputable section

namespace Cert.Proof.Lstm

open Cert.KernelIdeal Cert.KernelIdeal.Gen Cert.Proof.Cell
open Idealize.ShloMosaic
open Idealize.ShloMosaic.TcCoe Idealize.ShloMosaic.Tactic
open Idealize.SL Idealize.SL.Sem

variable {F : FTy → Type} [FloatOps F]
variable (m : (ℓ : Loc nD τ sig) → Buf (Elt F) ℓ)

/-- The row numbers as the region finds them. -/
theorem W3_v5 (d : Dev nD) (t : Fin 200) (r : Fin 2048) :
    (W3 m d main_v5 : S200x2048x1.Idx → BitVec 32) (ix3 t r 0) = tok m d t r := by
  have h : W3 m d main_v5 = shapeCast S200x2048x1 (W1 m d main_v1 : S200x2048.Idx → BitVec 32) shapeCasts_S200x2048_S200x2048x1 := by
    refine (StableHlo.reshape_result_ne main_arg5 main_v6 _ _ _ _ _ (by decide)).trans ?_
    refine (StableHlo.reshape_result main_v1 main_v5 _ _ _ _ (hop3.result (W2 m d))).trans ?_
    have e : hop3.result (W2 m d) main_v1 = W1 m d main_v1 :=
      (StableHlo.reshape_result_ne main_v3 main_v4 _ _ _ _ _ (by decide)).trans (W2_ne m d (StableHlo.devRef_ne_of_ne (by decide)))
    rw [e]
    rfl
  rw [h]
  refine tok_at m d _ _ t r ?_
  rw [Shape.rowMajor_val_three]
  show _ = (t.val * 2048 + r.val) * 1 + 0
  omega

/-- The bias as the region finds it. -/
theorem W3_v6 (d : Dev nD) (k : Fin 1024) :
    (W3 m d main_v6 : S1x1024.Idx → F .f32) (ix2 0 k) = (m (d, Proc.devRef .tc main_arg5) : S1024.Idx → F .f32) (ix1 k) := by
  have h : W3 m d main_v6 = shapeCast S1x1024 (m (d, Proc.devRef .tc main_arg5) : S1024.Idx → F .f32) shapeCasts_S1024_S1x1024 := by
    refine (StableHlo.reshape_result main_arg5 main_v6 _ _ _ _ (hop4.result (hop3.result (W2 m d)))).trans ?_
    have e : hop4.result (hop3.result (W2 m d)) main_arg5 = m (d, Proc.devRef .tc main_arg5) :=
      (StableHlo.reshape_result_ne main_v1 main_v5 _ _ _ _ _ (by decide)).trans
        ((StableHlo.reshape_result_ne main_v3 main_v4 _ _ _ _ _ (by decide)).trans
          ((W2_ne m d (StableHlo.devRef_ne_of_ne (by decide))).trans (W1_ne m d _ (by decide) (by decide) (by decide))))
    rw [e]
    rfl
  rw [h]
  pointwise

/-- The embedded rows as the region finds them: the table's rows of the row numbers. -/
theorem W3_v4 (d : Dev nD) (t : Fin 200) (r : Fin 2048) (e : Fin 128) :
    (W3 m d main_v4 : S200x2048x128.Idx → F .f32) (ix3 t r e)
      = (m (d, Proc.devRef .tc main_arg2) : S100001x128.Idx → F .f32)
          (ix2 ⟨(tok m d t r).toNat % 100001, Nat.mod_lt _ (by decide)⟩ e) := by
  have h : W3 m d main_v4 = shapeCast S200x2048x128 (gat (m (d, Proc.devRef .tc main_arg2) : S100001x128.Idx → F .f32) (fiB m d))
      shapeCasts_S409600x128_S200x2048x128 := by
    refine (StableHlo.reshape_result_ne main_arg5 main_v6 _ _ _ _ _ (by decide)).trans ?_
    refine (StableHlo.reshape_result_ne main_v1 main_v5 _ _ _ _ _ (by decide)).trans ?_
    refine (StableHlo.reshape_result main_v3 main_v4 _ _ _ _ (W2 m d)).trans ?_
    have e1 : W2 m d main_v3 = gat (m (d, Proc.devRef .tc main_arg2) : S100001x128.Idx → F .f32) (fiB m d) := by
      rw [W2_v3]
      have e2 : ftB m d = m (d, Proc.devRef .tc main_arg2) := W1_ne m d _ (by decide) (by decide) (by decide)
      show gat (ftB m d) (fiB m d) = _
      rw [e2]
    rw [e1]
    rfl
  rw [h]
  have hr : r.val < 2048 := r.isLt
  have ht : t.val < 200 := t.isLt
  refine (shapeCast_apply _ _ (ix3 t r e) (ix2 (⟨t.val * 2048 + r.val, by omega⟩ : Fin 409600) e) ?_).trans ?_
  · rw [Shape.rowMajor_val_two, Shape.rowMajor_val_three]
    rfl
  · unfold gat
    have hk : tok m d t r = fiB m d (ix3 (⟨(t.val * 2048 + r.val) / 12800, by omega⟩ : Fin 32)
        (⟨(t.val * 2048 + r.val) / 128 % 100, by omega⟩ : Fin 100) (⟨(t.val * 2048 + r.val) % 128, by omega⟩ : Fin 128)) := by
      rw [fiB_apply]
      congr 1
      · apply Fin.ext
        show t.val = ((t.val * 2048 + r.val) / 12800 * 12800 + (t.val * 2048 + r.val) / 128 % 100 * 128 + (t.val * 2048 + r.val) % 128) / 2048
        omega
      · apply Fin.ext
        show r.val = ((t.val * 2048 + r.val) / 12800 * 12800 + (t.val * 2048 + r.val) / 128 % 100 * 128 + (t.val * 2048 + r.val) % 128) % 2048
        omega
    simp only [hk]
    rfl

/-- The kernel's last cell state at row `r`. -/
theorem fin_row (m : (ℓ : Loc nD τ sig) → Buf (Elt Ideal) ℓ) (d : Dev nD) (r : Fin 2048) (j : Fin 256) :
    (fin m d (ix2 r j) : EReal)
      = last (fun i e => (m (d, Proc.devRef .tc main_arg2) : S100001x128.Idx → EReal) (ix2 i e))
          (fun e k => (m (d, Proc.devRef .tc main_arg3) : S128x1024.Idx → EReal) (ix2 e k))
          (fun e k => (m (d, Proc.devRef .tc main_arg4) : S256x1024.Idx → EReal) (ix2 e k))
          (fun k => (m (d, Proc.devRef .tc main_arg5) : S1024.Idx → EReal) (ix1 k))
          (fun t => tok m d t r) j := by
  have h := congrFun (congrArg Prod.snd (state_row (W3 m d main_v4) (W3 m d main_v5) (W3 m d main_arg3) (W3 m d main_arg4) (W3 m d main_v6) r 200)) j
  refine Eq.trans h ?_
  unfold last
  have e3 : W3 m d main_arg3 = m (d, Proc.devRef .tc main_arg3) := W3_input m d _ (by decide)
  have e4 : W3 m d main_arg4 = m (d, Proc.devRef .tc main_arg4) := W3_input m d _ (by decide)
  simp only [e3, e4]
  have e6 : (fun k : Fin 1024 => (W3 m d main_v6 : S1x1024.Idx → EReal) (ix2 0 k)) = fun k => (m (d, Proc.devRef .tc main_arg5) : S1024.Idx → EReal) (ix1 k) :=
    funext fun k => W3_v6 m d k
  have e5 : (fun (t : ℕ) (e : Fin 128) => (W3 m d main_v4 : S200x2048x128.Idx → EReal) (ix3 ⟨t % 200, Nat.mod_lt _ (by decide)⟩ r e))
      = fun t e => (m (d, Proc.devRef .tc main_arg2) : S100001x128.Idx → EReal)
          (ix2 ⟨(tok m d ⟨t % 200, Nat.mod_lt _ (by decide)⟩ r).toNat % 100001, Nat.mod_lt _ (by decide)⟩ e) :=
    funext fun t => funext fun e => W3_v4 m d _ r e
  have e7 : (fun t : ℕ => onBit ((W3 m d main_v5 : S200x2048x1.Idx → BitVec 32) (ix3 ⟨t % 200, Nat.mod_lt _ (by decide)⟩ r 0)))
      = fun t => onBit (tok m d ⟨t % 200, Nat.mod_lt _ (by decide)⟩ r) := funext fun t => congrArg onBit (W3_v5 m d _ r)
  rw [← e6, ← e5, ← e7]

end Cert.Proof.Lstm

end
-- ==== Proof.RefCell.lean ====
/-
  The reference's step read at one row. Its two recurrences have the same step, stated here once over the arrays it reads.
-/
module

public import proofs.«01_k».proof.Proof.Gen.ReferenceIdeal.Run
public import proofs.«01_k».proof.Proof.Cell
public import Idealize.ShloMosaic.Lib.Pointwise
public import Idealize.ShloMosaic.Lib.WordCmp

@[expose] public section

noncomputable section

namespace Cert.Proof.Ref

open Cert.ReferenceIdeal Cert.ReferenceIdeal.Gen Cert.ReferenceIdeal.Value Cert.Proof.Cell
open Idealize.ShloMosaic

/-- The words a step slices its row numbers' array at. -/
abbrev at3 (n : IVec S_ 32) : Fin 3 → Int := fun k => (((![n, constantI S_ 32 0#32, constantI S_ 32 0#32] : Fin 3 → IVec S_ 32)) k (Shape.Idx.first h_S_)).toInt
/-- The same, of the array of mask bits. -/
abbrev at2 (n : IVec S_ 32) : Fin 2 → Int := fun k => (((![n, constantI S_ 32 0#32] : Fin 2 → IVec S_ 32)) k (Shape.Idx.first h_S_)).toInt

/-- The gates of every row. -/
def gatesR (x : FVec Ideal S200x1024x128 .f32) (n : IVec S_ 32) (w : FVec Ideal S128x1024 .f32) (u : FVec Ideal S256x1024 .f32) (b : FVec Ideal S1024 .f32)
    (h : FVec Ideal S1024x256 .f32) : FVec Ideal S1024x1024 .f32 :=
  addf (addf (Host.dotGeneral dot_S1024x128_S128x1024_S1024x1024_1_0_0_1_n_n none (shapeCast S1024x128 (Host.dynamicSlice S1x1024x128 x (at3 n) sliceFits_S200x1024x128_S1x1024x128) shapeCasts_S1x1024x128_S1024x128) w) (Host.dotGeneral dot_S1024x256_S256x1024_S1024x1024_1_0_0_1_n_n none h u)) (broadcastInDim S1024x1024 ![0, 1] bcast_S1x1024_S1024x1024_0_1 (broadcastInDim S1x1024 ![1] bcast_S1024_S1x1024_1 b))

/-- A logistic of every entry, as the quotient it is. -/
def sigR (x : FVec Ideal S1024x256 .f32) : FVec Ideal S1024x256 .f32 :=
  Host.divf (broadcastInDim S1024x256 ![] bcast_S_S1024x256 (constant S_ .f32 0x3F800000#32)) (addf (broadcastInDim S1024x256 ![] bcast_S_S1024x256 (constant S_ .f32 0x3F800000#32)) (Host.exp (Host.negf x)))

/-- The new cells of every row. -/
def newCR (g : FVec Ideal S1024x1024 .f32) (c : FVec Ideal S1024x256 .f32) : FVec Ideal S1024x256 .f32 :=
  addf (mulf (sigR (extractStridedSlice S1024x256 ![0, 256] g slices_S1024x1024_S1024x256_0_256)) c) (mulf (sigR (extractStridedSlice S1024x256 ![0, 0] g slices_S1024x1024_S1024x256_0_0)) (Host.tanh (extractStridedSlice S1024x256 ![0, 512] g slices_S1024x1024_S1024x256_0_512)))

/-- The new hidden states of every row. -/
def newHR (g : FVec Ideal S1024x1024 .f32) (c : FVec Ideal S1024x256 .f32) : FVec Ideal S1024x256 .f32 :=
  mulf (sigR (extractStridedSlice S1024x256 ![0, 768] g slices_S1024x1024_S1024x256_0_768)) (Host.tanh (newCR g c))

/-- One array's entries where the step's mask bit is on, the other's where it is off. -/
def pickR (mk : IVec S200x1024 1) (n : IVec S_ 32) (p q : FVec Ideal S1024x256 .f32) : FVec Ideal S1024x256 .f32 :=
  select (broadcastInDim S1024x256 ![0, 1] bcast_S1024x1_S1024x256_0_1 (broadcastInDim S1024x1 ![0] bcast_S1024_S1024x1_0 (shapeCast S1024 (Host.dynamicSlice S1x1024 mk (at2 n) sliceFits_S200x1024_S1x1024) shapeCasts_S1x1024_S1024))) p q

section Reads
variable (V : Valuation τ sig (Elt Ideal))

theorem step9 : step_main_v11_9 V = pickR (V (Proc.devRef .tc main_v11_1)) (V (Proc.devRef .tc main_v11_7))
    (newCR (gatesR (V (Proc.devRef .tc main_v11_0)) (V (Proc.devRef .tc main_v11_7)) (V (Proc.devRef .tc main_v11_4)) (V (Proc.devRef .tc main_v11_5)) (V (Proc.devRef .tc main_v11_6)) (V (Proc.devRef .tc main_v11_8))) (V (Proc.devRef .tc main_v11_9))) (V (Proc.devRef .tc main_v11_9)) := by
  unfold step_main_v11_9 pickR newCR sigR gatesR res_main_while0b_v68 res_main_while0b_v65 res_main_while0b_v39
  rfl
theorem step8 : step_main_v11_8 V = pickR (V (Proc.devRef .tc main_v11_1)) (V (Proc.devRef .tc main_v11_7))
    (newHR (gatesR (V (Proc.devRef .tc main_v11_0)) (V (Proc.devRef .tc main_v11_7)) (V (Proc.devRef .tc main_v11_4)) (V (Proc.devRef .tc main_v11_5)) (V (Proc.devRef .tc main_v11_6)) (V (Proc.devRef .tc main_v11_8))) (V (Proc.devRef .tc main_v11_9))) (V (Proc.devRef .tc main_v11_8)) := by
  unfold step_main_v11_8 pickR newHR newCR sigR gatesR res_main_while0b_v68 res_main_while0b_v65 res_main_while0b_v39
  rfl
theorem step11 : step_main_v11_11 V = pickR (V (Proc.devRef .tc main_v11_3)) (V (Proc.devRef .tc main_v11_7))
    (newCR (gatesR (V (Proc.devRef .tc main_v11_2)) (V (Proc.devRef .tc main_v11_7)) (V (Proc.devRef .tc main_v11_4)) (V (Proc.devRef .tc main_v11_5)) (V (Proc.devRef .tc main_v11_6)) (V (Proc.devRef .tc main_v11_10))) (V (Proc.devRef .tc main_v11_11))) (V (Proc.devRef .tc main_v11_11)) := by
  unfold step_main_v11_11 pickR newCR sigR gatesR res_main_while0b_v105 res_main_while0b_v102 res_main_while0b_v76
  rfl
theorem step10 : step_main_v11_10 V = pickR (V (Proc.devRef .tc main_v11_3)) (V (Proc.devRef .tc main_v11_7))
    (newHR (gatesR (V (Proc.devRef .tc main_v11_2)) (V (Proc.devRef .tc main_v11_7)) (V (Proc.devRef .tc main_v11_4)) (V (Proc.devRef .tc main_v11_5)) (V (Proc.devRef .tc main_v11_6)) (V (Proc.devRef .tc main_v11_10))) (V (Proc.devRef .tc main_v11_11))) (V (Proc.devRef .tc main_v11_10)) := by
  unfold step_main_v11_10 pickR newHR newCR sigR gatesR res_main_while0b_v105 res_main_while0b_v102 res_main_while0b_v76
  rfl

end Reads

theorem one_f32 : Ideal.ofBits .f32 0x3F800000#32 = 1 := by
  simp [Ideal.ofBits, Ideal.ieee]
  rw [← EReal.coe_mul]
  norm_num

theorem sigR_apply (x : FVec Ideal S1024x256 .f32) (i : S1024x256.Idx) : sigR x i = Ideal.logistic (x i) := by
  unfold Ideal.logistic
  pointwise [sigR, one_f32]

theorem newCR_apply (g : FVec Ideal S1024x1024 .f32) (c : FVec Ideal S1024x256 .f32) (r : Fin 1024) (j : Fin 256) :
    newCR g c (ix2 r j) = newC (fun k => g (ix2 r k)) (fun e => c (ix2 r e)) j := by
  unfold newC
  pointwise [newCR, sigR_apply]

theorem newHR_apply (g : FVec Ideal S1024x1024 .f32) (c : FVec Ideal S1024x256 .f32) (r : Fin 1024) (j : Fin 256) :
    newHR g c (ix2 r j) = newH (fun k => g (ix2 r k)) (fun e => c (ix2 r e)) j := by
  unfold newH
  rw [← newCR_apply]
  pointwise [newHR, sigR_apply]

/-- Step `n`'s rows out of the array of all of them. -/
theorem slice3 (x : FVec Ideal S200x1024x128 .f32) (n : Fin 200) :
    Host.dynamicSlice S1x1024x128 x (at3 fun _ => BitVec.ofNat 32 n.val) sliceFits_S200x1024x128_S1x1024x128
      = fun y => x (ix3 n (y 1 : Fin 1024) (y 2 : Fin 128)) := by
  have hn : n.val < 200 := n.isLt
  have e : (BitVec.ofNat 32 n.val).toInt = n.val := WordCmp.toInt_ofNat_of_lt (by omega)
  funext y
  unfold Host.dynamicSlice
  refine congrArg x (funext fun a => ?_)
  have h0 : (y 0).val < 1 := (y 0).isLt
  match a with
  | ⟨0, _⟩ =>
    refine Fin.ext ?_
    show (min (max (BitVec.ofNat 32 n.val).toInt 0) ((200 - 1 : ℕ) : Int)).toNat + (y 0).val = n.val
    rw [e]; omega
  | ⟨1, _⟩ => exact Fin.ext (Nat.zero_add (y 1).val)
  | ⟨2, _⟩ => exact Fin.ext (Nat.zero_add (y 2).val)

/-- Step `n`'s mask bits out of the array of all of them. -/
theorem slice2 (mk : IVec S200x1024 1) (n : Fin 200) :
    Host.dynamicSlice S1x1024 mk (at2 fun _ => BitVec.ofNat 32 n.val) sliceFits_S200x1024_S1x1024
      = fun y => mk (ix2 n (y 1 : Fin 1024)) := by
  have hn : n.val < 200 := n.isLt
  have e : (BitVec.ofNat 32 n.val).toInt = n.val := WordCmp.toInt_ofNat_of_lt (by omega)
  funext y
  unfold Host.dynamicSlice
  refine congrArg mk (funext fun a => ?_)
  have h0 : (y 0).val < 1 := (y 0).isLt
  match a with
  | ⟨0, _⟩ =>
    refine Fin.ext ?_
    show (min (max (BitVec.ofNat 32 n.val).toInt 0) ((200 - 1 : ℕ) : Int)).toNat + (y 0).val = n.val
    rw [e]; omega
  | ⟨1, _⟩ => exact Fin.ext (Nat.zero_add (y 1).val)

theorem gatesR_apply (x : FVec Ideal S200x1024x128 .f32) (n : Fin 200) (w : FVec Ideal S128x1024 .f32) (u : FVec Ideal S256x1024 .f32) (b : FVec Ideal S1024 .f32)
    (h : FVec Ideal S1024x256 .f32) (r k : Fin 1024) :
    gatesR x (fun _ => BitVec.ofNat 32 n.val) w u b h (ix2 r k)
      = gates (fun e k => w (ix2 e k)) (fun e k => u (ix2 e k)) (fun k => b (ix1 k)) (fun e => x (ix3 n r e)) (fun e => h (ix2 r e)) k := by
  unfold gates gatesR
  rw [slice3]
  pointwise

theorem pickR_apply (mk : IVec S200x1024 1) (n : Fin 200) (p q : FVec Ideal S1024x256 .f32) (r : Fin 1024) (j : Fin 256) :
    pickR mk (fun _ => BitVec.ofNat 32 n.val) p q (ix2 r j) = Scalar.select (mk (ix2 n r)) (p (ix2 r j)) (q (ix2 r j)) := by
  unfold pickR
  rw [slice2]
  pointwise

end Cert.Proof.Ref

end
-- ==== Proof.RefRow.lean ====
/-
  The reference's loop read at one row: after `k` trips each recurrence's row is the cell's state after `k` steps.
-/
module

public import proofs.«01_k».proof.Proof.RefCell

@[expose] public section

noncomputable section

namespace Cert.Proof.Ref

open Cert.ReferenceIdeal Cert.ReferenceIdeal.Gen Cert.ReferenceIdeal.Value Cert.Proof.Cell
open Idealize.ShloMosaic

variable (V : Valuation τ sig (Elt Ideal))

/-- A trip leaves the arrays it only reads. -/
theorem iter_read (j : Ref sig .tc) (hj : j ∈ [main_v11_0, main_v11_1, main_v11_2, main_v11_3, main_v11_4, main_v11_5, main_v11_6]) (k : ℕ) :
    (STEP^[k] V) (Proc.devRef .tc j) = V (Proc.devRef .tc j) := by
  induction k with
  | zero => rfl
  | succ k ih =>
    rw [Function.iterate_succ_apply']
    refine Eq.trans ?_ ih
    fin_cases hj
    · exact STEP_main_v11_0 _
    · exact STEP_main_v11_1 _
    · exact STEP_main_v11_2 _
    · exact STEP_main_v11_3 _
    · exact STEP_main_v11_4 _
    · exact STEP_main_v11_5 _
    · exact STEP_main_v11_6 _

/-- The counter after `k` trips. -/
theorem iter_ctr (h : V (Proc.devRef .tc main_v11_7) = fun _ => (0#32 : BitVec 32)) (k : ℕ) :
    (STEP^[k] V) (Proc.devRef .tc main_v11_7) = fun _ => BitVec.ofNat 32 k := by
  induction k with
  | zero => exact h
  | succ k ih =>
    rw [Function.iterate_succ_apply', STEP_main_v11_7]
    unfold step_main_v11_7
    rw [ih]
    funext i
    show BitVec.ofNat 32 k + 1#32 = BitVec.ofNat 32 (k + 1)
    rw [BitVec.ofNat_add]

/-- A hidden state and a cell that start at zero and step together hold at each row that row's state, up to trip 200. -/
theorem rows_of_step (x : FVec Ideal S200x1024x128 .f32) (mk : IVec S200x1024 1) (w : FVec Ideal S128x1024 .f32) (u : FVec Ideal S256x1024 .f32)
    (b : FVec Ideal S1024 .f32) (hs cs : ℕ → FVec Ideal S1024x256 .f32) (h0 : hs 0 = fun _ => 0) (c0 : cs 0 = fun _ => 0)
    (h1 : ∀ k, hs (k + 1) = pickR mk (fun _ => BitVec.ofNat 32 k) (newHR (gatesR x (fun _ => BitVec.ofNat 32 k) w u b (hs k)) (cs k)) (hs k))
    (c1 : ∀ k, cs (k + 1) = pickR mk (fun _ => BitVec.ofNat 32 k) (newCR (gatesR x (fun _ => BitVec.ofNat 32 k) w u b (hs k)) (cs k)) (cs k))
    (r : Fin 1024) (k : ℕ) (hk : k ≤ 200) :
    ((fun j : Fin 256 => (hs k (ix2 r j) : EReal)), fun j : Fin 256 => (cs k (ix2 r j) : EReal))
      = row (fun e k => w (ix2 e k)) (fun e k => u (ix2 e k)) (fun k => b (ix1 k))
          (fun t e => x (ix3 ⟨t % 200, Nat.mod_lt _ (by decide)⟩ r e))
          (fun t => mk (ix2 ⟨t % 200, Nat.mod_lt _ (by decide)⟩ r)) k := by
  induction k with
  | zero => rw [h0, c0]; rfl
  | succ k ih =>
    have ih := ih (by omega)
    have e1 := congrArg Prod.fst ih
    have e2 := congrArg Prod.snd ih
    dsimp only at e1 e2
    have hm : (⟨k, by omega⟩ : Fin 200) = ⟨k % 200, Nat.mod_lt _ (by decide)⟩ := Fin.ext (Nat.mod_eq_of_lt (by omega)).symm
    rw [h1, c1]
    unfold row
    refine Prod.ext (funext fun j => ?_) (funext fun j => ?_)
    · dsimp only
      refine (pickR_apply mk ⟨k, by omega⟩ _ _ r j).trans ?_
      rw [newHR_apply, ← e1, ← e2, hm]
      refine congrArg (fun g => Scalar.select _ (newH g _ j) _) (funext fun l => ?_)
      refine (gatesR_apply x ⟨k, by omega⟩ w u b _ r l).trans ?_
      rw [hm]
    · dsimp only
      refine (pickR_apply mk ⟨k, by omega⟩ _ _ r j).trans ?_
      rw [newCR_apply, ← e1, ← e2, hm]
      refine congrArg (fun g => Scalar.select _ (newC g _ j) _) (funext fun l => ?_)
      refine (gatesR_apply x ⟨k, by omega⟩ w u b _ r l).trans ?_
      rw [hm]

variable (h7 : V (Proc.devRef .tc main_v11_7) = fun _ => (0#32 : BitVec 32))

include h7

/-- The first recurrence. -/
theorem iter_first (h8 : V (Proc.devRef .tc main_v11_8) = fun _ => (0 : EReal)) (h9 : V (Proc.devRef .tc main_v11_9) = fun _ => (0 : EReal)) (r : Fin 1024) (j : Fin 256) :
    ((STEP^[200] V) (Proc.devRef .tc main_v11_9) : S1024x256.Idx → EReal) (ix2 r j)
      = (row (fun e k => (V (Proc.devRef .tc main_v11_4) : S128x1024.Idx → EReal) (ix2 e k)) (fun e k => (V (Proc.devRef .tc main_v11_5) : S256x1024.Idx → EReal) (ix2 e k))
          (fun k => (V (Proc.devRef .tc main_v11_6) : S1024.Idx → EReal) (ix1 k))
          (fun t e => (V (Proc.devRef .tc main_v11_0) : S200x1024x128.Idx → EReal) (ix3 ⟨t % 200, Nat.mod_lt _ (by decide)⟩ r e))
          (fun t => (V (Proc.devRef .tc main_v11_1) : S200x1024.Idx → BitVec 1) (ix2 ⟨t % 200, Nat.mod_lt _ (by decide)⟩ r)) 200).2 j :=
  congrFun (congrArg Prod.snd (rows_of_step (V (Proc.devRef .tc main_v11_0)) (V (Proc.devRef .tc main_v11_1)) (V (Proc.devRef .tc main_v11_4)) (V (Proc.devRef .tc main_v11_5)) (V (Proc.devRef .tc main_v11_6))
    (fun k => (STEP^[k] V) (Proc.devRef .tc main_v11_8)) (fun k => (STEP^[k] V) (Proc.devRef .tc main_v11_9)) h8 h9
    (fun k => by
      rw [Function.iterate_succ_apply', STEP_main_v11_8, step8, iter_ctr V h7, iter_read V main_v11_0 (by decide), iter_read V main_v11_1 (by decide),
        iter_read V main_v11_4 (by decide), iter_read V main_v11_5 (by decide), iter_read V main_v11_6 (by decide)]
      rfl)
    (fun k => by
      rw [Function.iterate_succ_apply', STEP_main_v11_9, step9, iter_ctr V h7, iter_read V main_v11_0 (by decide), iter_read V main_v11_1 (by decide),
        iter_read V main_v11_4 (by decide), iter_read V main_v11_5 (by decide), iter_read V main_v11_6 (by decide)]
      rfl)
    r 200 le_rfl)) j

/-- The second recurrence. -/
theorem iter_second (h10 : V (Proc.devRef .tc main_v11_10) = fun _ => (0 : EReal)) (h11 : V (Proc.devRef .tc main_v11_11) = fun _ => (0 : EReal)) (r : Fin 1024) (j : Fin 256) :
    ((STEP^[200] V) (Proc.devRef .tc main_v11_11) : S1024x256.Idx → EReal) (ix2 r j)
      = (row (fun e k => (V (Proc.devRef .tc main_v11_4) : S128x1024.Idx → EReal) (ix2 e k)) (fun e k => (V (Proc.devRef .tc main_v11_5) : S256x1024.Idx → EReal) (ix2 e k))
          (fun k => (V (Proc.devRef .tc main_v11_6) : S1024.Idx → EReal) (ix1 k))
          (fun t e => (V (Proc.devRef .tc main_v11_2) : S200x1024x128.Idx → EReal) (ix3 ⟨t % 200, Nat.mod_lt _ (by decide)⟩ r e))
          (fun t => (V (Proc.devRef .tc main_v11_3) : S200x1024.Idx → BitVec 1) (ix2 ⟨t % 200, Nat.mod_lt _ (by decide)⟩ r)) 200).2 j :=
  congrFun (congrArg Prod.snd (rows_of_step (V (Proc.devRef .tc main_v11_2)) (V (Proc.devRef .tc main_v11_3)) (V (Proc.devRef .tc main_v11_4)) (V (Proc.devRef .tc main_v11_5)) (V (Proc.devRef .tc main_v11_6))
    (fun k => (STEP^[k] V) (Proc.devRef .tc main_v11_10)) (fun k => (STEP^[k] V) (Proc.devRef .tc main_v11_11)) h10 h11
    (fun k => by
      rw [Function.iterate_succ_apply', STEP_main_v11_10, step10, iter_ctr V h7, iter_read V main_v11_2 (by decide), iter_read V main_v11_3 (by decide),
        iter_read V main_v11_4 (by decide), iter_read V main_v11_5 (by decide), iter_read V main_v11_6 (by decide)]
      rfl)
    (fun k => by
      rw [Function.iterate_succ_apply', STEP_main_v11_11, step11, iter_ctr V h7, iter_read V main_v11_2 (by decide), iter_read V main_v11_3 (by decide),
        iter_read V main_v11_4 (by decide), iter_read V main_v11_5 (by decide), iter_read V main_v11_6 (by decide)]
      rfl)
    r 200 le_rfl)) j

end Cert.Proof.Ref

end
-- ==== Proof.RefEntry.lean ====
/-
  The arrays the reference's loop starts from, of the arguments: the embedded rows (an index in range is neither wrapped
  nor masked), the mask bits, the weights, and zero states.
-/
module

public import proofs.«01_k».proof.Proof.RefRow
public import Idealize.ShloMosaic.Lib.ReduceAll

@[expose] public section

noncomputable section

namespace Cert.Proof.Ref

open Cert.ReferenceIdeal Cert.ReferenceIdeal.Gen Cert.ReferenceIdeal.Value Cert.Proof.Cell
open Idealize.ShloMosaic Idealize.ShloMosaic.StableHlo Idealize.ShloMosaic.Pipeline

variable {F : FTy → Type} [FloatOps F]

/-- The row numbers as a gather's start indices, negative ones wrapped. -/
def wrapped (a : IVec S1024x200 32) : IVec S1024x200x1 32 :=
  broadcastInDim S1024x200x1 ![0, 1] bcast_S1024x200_S1024x200x1_0_1
    (select (cmpi .slt a (broadcastInDim S1024x200 ![] bcast_S_S1024x200 (constantI S_ 32 0#32)))
      (addi a (broadcastInDim S1024x200 ![] bcast_S_S1024x200 (constantI S_ 32 100001#32))) a)

/-- Which of them name a row. -/
def named (i : IVec S1024x200x1 32) : IVec S1024x200 1 :=
  Host.reduce IntOp.andi
    (andi (cmpi .sge i (broadcastInDim S1024x200x1 ![] bcast_S_S1024x200x1 (constantI S_ 32 0#32)))
      (cmpi .sle i (broadcastInDim S1024x200x1 ![0, 1, 2] bcast_S1x1x1_S1024x200x1_0_1_2 (broadcastInDim S1x1x1 ![2] bcast_S1_S1x1x1_2 (constantI S1 32 100000#32)))))
    (constantI S_ 1 1#1) reducesTo_S1024x200x1_S1024x200_d2 h_S_

/-- The rows of a table that they name. -/
def take (tb : FVec F S100001x128 .f32) (a : IVec S1024x200 32) : FVec F S1024x200x128 .f32 :=
  select (broadcastInDim S1024x200x128 ![0, 1] bcast_S1024x200_S1024x200x128_0_1 (named (wrapped a)))
    (Host.gather gather_S100001x128_S1024x200x1_S1024x200x128_2_0_n_n_0_2_1128 tb (wrapped a))
    (broadcastInDim S1024x200x128 ![] bcast_S_S1024x200x128 (constant S_ .f32 0x7FC00000#32))

variable (V : Valuation τ sig (Elt F))

set_option maxRecDepth 65536 in
theorem take_first : after hostOps0 V (no_index (Proc.devRef .tc main_v0)) = take (V (Proc.devRef .tc main_arg2)) (V (Proc.devRef .tc main_arg0)) := by
  unfold take named wrapped
  simp only [hostOps0]
  after_results_entrywise [cast_eq]

set_option maxRecDepth 65536 in
theorem take_second : after hostOps0_2 V (no_index (Proc.devRef .tc main_v3)) = take (V (Proc.devRef .tc main_arg2)) (V (Proc.devRef .tc main_arg1)) := by
  unfold take named wrapped
  simp only [hostOps0_2]
  after_results_entrywise [cast_eq]

/-! ## The rows taken -/

/-- A row number in range, read signed. -/
theorem toInt_small (x : BitVec 32) (h : x.toNat < 100001) : x.toInt = (x.toNat : ℤ) := by
  have := BitVec.toInt_eq_toNat_of_lt (x := x) (by omega)
  exact this

variable (a : IVec S1024x200 32) (ha : ∀ i, (a i).toNat < 100001)

include ha

/-- No row number in range is negative. -/
theorem wrapped_eq : wrapped a = broadcastInDim S1024x200x1 ![0, 1] bcast_S1024x200_S1024x200x1_0_1 a := by
  unfold wrapped
  refine congrArg _ (funext fun i => ?_)
  show Scalar.select (IntOp.cmpi .slt (a i) 0#32) _ (a i) = a i
  have : IntOp.cmpi .slt (a i) 0#32 = 0#1 := by
    have := toInt_small (a i) (ha i)
    simp only [IntOp.cmpi, BitVec.slt, this]
    rw [decide_eq_false (by simp)]
    rfl
  rw [this]
  rfl

omit ha in
/-- A conjunction of ones is one. -/
theorem fold_ones {ι : Type} (f : ι → BitVec 1) (l : List ι) (h : ∀ n, f n = 1#1) : l.foldl (fun r n => IntOp.andi r (f n)) 1#1 = 1#1 := by
  induction l with
  | nil => rfl
  | cons n l ih =>
    rw [List.foldl_cons, h n]
    exact ih

/-- Every row number in range names a row. -/
theorem named_eq : named (wrapped a) = fun _ => 1#1 := by
  rw [wrapped_eq a ha]
  funext j
  unfold named Host.reduce
  refine fold_ones _ _ fun n => ?_
  have key : ∀ x : BitVec 32, x.toNat < 100001 → IntOp.andi (IntOp.cmpi .sge x 0#32) (IntOp.cmpi .sle x 100000#32) = 1#1 := by
    intro x hx
    have e := toInt_small x hx
    have e1 : IntOp.cmpi .sge x 0#32 = 1#1 := by simp [IntOp.cmpi, BitVec.sle, e]
    have e2 : IntOp.cmpi .sle x 100000#32 = 1#1 := by
      have : (100000#32 : BitVec 32).toInt = 100000 := by decide
      simp only [IntOp.cmpi, BitVec.sle, e, this]
      rw [decide_eq_true (by omega)]
      rfl
    rw [e1, e2]
    rfl
  exact key _ (ha _)

omit ha in
/-- The gather of rows at one entry: the row named, read signed and kept inside the table. -/
theorem gather_apply (tb : FVec F S100001x128 .f32) (i : IVec S1024x200x1 32) (r : Fin 1024) (t : Fin 200) (e : Fin 128) :
    Host.gather gather_S100001x128_S1024x200x1_S1024x200x128_2_0_n_n_0_2_1128 tb i (ix3 r t e)
      = tb (ix2 ⟨min (i (ix3 r t 0)).toInt.toNat 100000, by omega⟩ e) := by
  unfold Host.gather
  congr 1
  funext b
  refine Fin.ext ?_
  show gather_S100001x128_S1024x200x1_S1024x200x128_2_0_n_n_0_2_1128.start (ix3 r t e) i b
      + gather_S100001x128_S1024x200x1_S1024x200x128_2_0_n_n_0_2_1128.batchCoord (ix3 r t e) b
      + gather_S100001x128_S1024x200x1_S1024x200x128_2_0_n_n_0_2_1128.offCoord (ix3 r t e) b = _
  have h01 : b = (0 : Fin 2) ∨ b = (1 : Fin 2) := by
    match b with
    | ⟨0, _⟩ => exact Or.inl rfl
    | ⟨1, _⟩ => exact Or.inr rfl
  rcases h01 with rfl | rfl
  · rw [GatherDims.batchCoord_eq_zero _ _ _ (fun h => by exact absurd h (List.not_mem_nil)),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100001x128_S1024x200x1_S1024x200x128_2_0_n_n_0_2_1128.startIndexMap from List.mem_singleton.mpr rfl)]
    have hsi : gather_S100001x128_S1024x200x1_S1024x200x128_2_0_n_n_0_2_1128.siIdx (ix3 r t e)
        ⟨List.idxOf (0 : Fin 2) gather_S100001x128_S1024x200x1_S1024x200x128_2_0_n_n_0_2_1128.startIndexMap,
          List.idxOf_lt_length_iff.2 (List.mem_singleton.mpr rfl)⟩ = ix3 r t 0 := by
      funext c; refine Fin.ext ?_
      match c with
      | ⟨0, _⟩ => rfl
      | ⟨1, _⟩ => rfl
      | ⟨2, _⟩ => rfl
    rw [hsi]
    rfl
  · rw [GatherDims.batchCoord_eq_zero _ _ _ (fun h => by exact absurd h (List.not_mem_nil))]
    unfold GatherDims.start GatherDims.offCoord
    rw [dif_neg (show (1 : Fin 2) ∉ gather_S100001x128_S1024x200x1_S1024x200x128_2_0_n_n_0_2_1128.startIndexMap from by
        intro h; exact absurd (List.mem_singleton.mp h) (by decide)),
      dif_pos (show (1 : Fin 2) ∈ gather_S100001x128_S1024x200x1_S1024x200x128_2_0_n_n_0_2_1128.sKept from
        (GatherDims.mem_sKept _ _).mpr ⟨fun h => absurd (List.mem_singleton.mp h) (by decide), List.not_mem_nil⟩)]
    simp only [Nat.zero_add, Nat.add_zero]
    rfl

/-- The rows taken at one entry. -/
theorem take_apply (tb : FVec F S100001x128 .f32) (r : Fin 1024) (t : Fin 200) (e : Fin 128) :
    take tb a (ix3 r t e) = tb (ix2 ⟨(a (ix2 r t)).toNat % 100001, Nat.mod_lt _ (by decide)⟩ e) := by
  unfold take
  rw [named_eq a ha]
  show Host.gather gather_S100001x128_S1024x200x1_S1024x200x128_2_0_n_n_0_2_1128 tb (wrapped a) (ix3 r t e) = _
  rw [gather_apply]
  refine congrArg (fun q => tb (ix2 q e)) (Fin.ext ?_)
  have e1 : wrapped a (ix3 r t 0) = a (ix2 r t) := by
    rw [wrapped_eq a ha]
    pointwise
  show min (wrapped a (ix3 r t 0)).toInt.toNat 100000 = _
  rw [e1, toInt_small _ (ha _)]
  show min ((a (ix2 r t)).toNat : ℤ).toNat 100000 = (a (ix2 r t)).toNat % 100001
  have := ha (ix2 r t)
  omega

omit ha

/-! ## The loop's entry -/

section Entry

set_option maxRecDepth 65536 in
set_option maxHeartbeats 2000000 in
theorem last_ops (W : Valuation τ sig (Elt F)) :
    after hostOps0_3 W (Proc.devRef .tc main_v11_0) = transpose S200x1024x128 [1, 0, 2] (W (Proc.devRef .tc main_v0)) transposes_S1024x200x128_S200x1024x128_1_0_2
    ∧ after hostOps0_3 W (Proc.devRef .tc main_v11_1) = transpose S200x1024 [1, 0] (W (Proc.devRef .tc main_v2)) transposes_S1024x200_S200x1024_1_0
    ∧ after hostOps0_3 W (Proc.devRef .tc main_v11_2) = transpose S200x1024x128 [1, 0, 2] (W (Proc.devRef .tc main_v3)) transposes_S1024x200x128_S200x1024x128_1_0_2
    ∧ after hostOps0_3 W (Proc.devRef .tc main_v11_3) = transpose S200x1024 [1, 0] (cmpi .ne (W (Proc.devRef .tc main_arg1)) (broadcastInDim S1024x200 ![] bcast_S_S1024x200 (constantI S_ 32 0#32))) transposes_S1024x200_S200x1024_1_0 := by
  refine ⟨?_, ?_, ?_, ?_⟩ <;>
  · simp only [hostOps0_3]
    after_results_entrywise [id_eq]

set_option maxRecDepth 65536 in
set_option maxHeartbeats 2000000 in
theorem last_ops' (W : Valuation τ sig (Elt F)) :
    after hostOps0_3 W (Proc.devRef .tc main_v11_4) = W (Proc.devRef .tc main_arg3)
    ∧ after hostOps0_3 W (Proc.devRef .tc main_v11_5) = W (Proc.devRef .tc main_arg4)
    ∧ after hostOps0_3 W (Proc.devRef .tc main_v11_6) = W (Proc.devRef .tc main_arg5) := by
  refine ⟨?_, ?_, ?_⟩ <;>
  · simp only [hostOps0_3]
    after_results_entrywise [id_eq]

set_option maxRecDepth 65536 in
set_option maxHeartbeats 2000000 in
theorem last_ops_zero (W : Valuation τ sig (Elt F)) :
    after hostOps0_3 W (Proc.devRef .tc main_v11_8) = broadcastInDim S1024x256 ![] bcast_S_S1024x256 (constant S_ .f32 0x00000000#32)
    ∧ after hostOps0_3 W (Proc.devRef .tc main_v11_9) = broadcastInDim S1024x256 ![] bcast_S_S1024x256 (constant S_ .f32 0x00000000#32)
    ∧ after hostOps0_3 W (Proc.devRef .tc main_v11_10) = broadcastInDim S1024x256 ![] bcast_S_S1024x256 (constant S_ .f32 0x00000000#32)
    ∧ after hostOps0_3 W (Proc.devRef .tc main_v11_11) = broadcastInDim S1024x256 ![] bcast_S_S1024x256 (constant S_ .f32 0x00000000#32) := by
  refine ⟨?_, ?_, ?_, ?_⟩ <;>
  · simp only [hostOps0_3]
    after_results_entrywise [id_eq]

set_option maxRecDepth 65536 in
theorem mask_ops (W : Valuation τ sig (Elt F)) :
    after hostOps0_1 W (Proc.devRef .tc main_v2) = cmpi .ne (W (Proc.devRef .tc main_arg0)) (broadcastInDim S1024x200 ![] bcast_S_S1024x200 (constantI S_ 32 0#32)) := by
  simp only [hostOps0_1]
  after_results_entrywise [id_eq]

end Entry

end Cert.Proof.Ref

end
-- ==== Proof.RefLast.lean ====
/-
  What the reference's loop ends at: each result's row is the last cell of that row's tokens.
-/
module

public import proofs.«01_k».proof.Proof.RefEntry

@[expose] public section

noncomputable section

namespace Cert.Proof.Ref

open Cert.ReferenceIdeal Cert.ReferenceIdeal.Gen Cert.ReferenceIdeal.Value Cert.Proof.Cell
open Idealize.ShloMosaic Idealize.ShloMosaic.StableHlo Idealize.ShloMosaic.Pipeline

variable (m : (ℓ : Loc nD τ sig) → Buf (Elt Ideal) ℓ) (c : Dev nD)

/-- The loop's entry: the four stretches before it, in order. -/
theorem entry_eq (j : Ref sig .tc) : entryContents preI m c (Proc.devRef .tc j)
    = after hostOps0_3 (after hostOps0_2 (after hostOps0_1 (after hostOps0 (fun b => m (c, b))))) (Proc.devRef .tc j) := by
  simp only [entryContents, afterL_cons, afterL_nil]

/-- The zero state. -/
theorem zero_state : broadcastInDim S1024x256 ![] bcast_S_S1024x256 (constant (F := Ideal) S_ .f32 0x00000000#32) = fun _ => (0 : EReal) := by
  funext i
  show Ideal.ofBits .f32 0x00000000#32 = 0
  simp [Ideal.ofBits, Ideal.ieee]

theorem entry_8 : entryContents preI m c (Proc.devRef .tc main_v11_8) = fun _ => (0 : EReal) := by
  rw [entry_eq, (last_ops_zero _).1]; exact zero_state
theorem entry_9 : entryContents preI m c (Proc.devRef .tc main_v11_9) = fun _ => (0 : EReal) := by
  rw [entry_eq, (last_ops_zero _).2.1]; exact zero_state
theorem entry_10 : entryContents preI m c (Proc.devRef .tc main_v11_10) = fun _ => (0 : EReal) := by
  rw [entry_eq, (last_ops_zero _).2.2.1]; exact zero_state
theorem entry_11 : entryContents preI m c (Proc.devRef .tc main_v11_11) = fun _ => (0 : EReal) := by
  rw [entry_eq, (last_ops_zero _).2.2.2]; exact zero_state

theorem entry_4 : entryContents preI m c (Proc.devRef .tc main_v11_4) = m (c, Proc.devRef .tc main_arg3) := by
  rw [entry_eq, (last_ops' _).1, keep_main_arg3_hostOps0_2, keep_main_arg3_hostOps0_1, keep_main_arg3_hostOps0]
theorem entry_5 : entryContents preI m c (Proc.devRef .tc main_v11_5) = m (c, Proc.devRef .tc main_arg4) := by
  rw [entry_eq, (last_ops' _).2.1, keep_main_arg4_hostOps0_2, keep_main_arg4_hostOps0_1, keep_main_arg4_hostOps0]
theorem entry_6 : entryContents preI m c (Proc.devRef .tc main_v11_6) = m (c, Proc.devRef .tc main_arg5) := by
  rw [entry_eq, (last_ops' _).2.2, keep_main_arg5_hostOps0_2, keep_main_arg5_hostOps0_1, keep_main_arg5_hostOps0]

theorem entry_0 : entryContents preI m c (Proc.devRef .tc main_v11_0)
    = transpose S200x1024x128 [1, 0, 2] (take (F := Ideal) (m (c, Proc.devRef .tc main_arg2)) (m (c, Proc.devRef .tc main_arg0))) transposes_S1024x200x128_S200x1024x128_1_0_2 := by
  rw [entry_eq, (last_ops _).1, after_of_writes_sub hostOps0_2 _ hostOps0_2_writes (by decide +kernel), after_of_writes_sub hostOps0_1 _ hostOps0_1_writes (by decide +kernel), take_first]
theorem entry_2 : entryContents preI m c (Proc.devRef .tc main_v11_2)
    = transpose S200x1024x128 [1, 0, 2] (take (F := Ideal) (m (c, Proc.devRef .tc main_arg2)) (m (c, Proc.devRef .tc main_arg1))) transposes_S1024x200x128_S200x1024x128_1_0_2 := by
  rw [entry_eq, (last_ops _).2.2.1, take_second, keep_main_arg2_hostOps0_1, keep_main_arg2_hostOps0, keep_main_arg1_hostOps0_1, keep_main_arg1_hostOps0]
theorem entry_1 : entryContents preI m c (Proc.devRef .tc main_v11_1)
    = transpose S200x1024 [1, 0] (cmpi .ne (m (c, Proc.devRef .tc main_arg0)) (broadcastInDim S1024x200 ![] bcast_S_S1024x200 (constantI S_ 32 0#32))) transposes_S1024x200_S200x1024_1_0 := by
  rw [entry_eq, (last_ops _).2.1, after_of_writes_sub hostOps0_2 _ hostOps0_2_writes (by decide +kernel), mask_ops, keep_main_arg0_hostOps0]
theorem entry_3 : entryContents preI m c (Proc.devRef .tc main_v11_3)
    = transpose S200x1024 [1, 0] (cmpi .ne (m (c, Proc.devRef .tc main_arg1)) (broadcastInDim S1024x200 ![] bcast_S_S1024x200 (constantI S_ 32 0#32))) transposes_S1024x200_S200x1024_1_0 := by
  rw [entry_eq, (last_ops _).2.2.2, keep_main_arg1_hostOps0_2, keep_main_arg1_hostOps0_1, keep_main_arg1_hostOps0]

/-- The embedded rows, step first. -/
theorem emb_apply (tb : FVec Ideal S100001x128 .f32) (a : IVec S1024x200 32) (ha : ∀ i, (a i).toNat < 100001) (t : Fin 200) (r : Fin 1024) (e : Fin 128) :
    transpose S200x1024x128 [1, 0, 2] (take tb a) transposes_S1024x200x128_S200x1024x128_1_0_2 (ix3 t r e)
      = tb (ix2 ⟨(a (ix2 r t)).toNat % 100001, Nat.mod_lt _ (by decide)⟩ e) := by
  refine Eq.trans ?_ (take_apply a ha tb r t e)
  pointwise

/-- The mask bits, step first. -/
theorem mask_apply (a : IVec S1024x200 32) (t : Fin 200) (r : Fin 1024) :
    transpose S200x1024 [1, 0] (cmpi .ne a (broadcastInDim S1024x200 ![] bcast_S_S1024x200 (constantI S_ 32 0#32))) transposes_S1024x200_S200x1024_1_0 (ix2 t r)
      = onBit (a (ix2 r t)) := by
  unfold onBit
  pointwise

/-- Two rows from equal inputs are equal. -/
theorem row_congr {w w' : Fin 128 → Fin 1024 → EReal} {u u' : Fin 256 → Fin 1024 → EReal} {b b' : Fin 1024 → EReal} {x x' : ℕ → Fin 128 → EReal} {k k' : ℕ → BitVec 1}
    (hw : w = w') (hu : u = u') (hb : b = b') (hx : x = x') (hk : k = k') (n : ℕ) : row w u b x k n = row w' u' b' x' k' n := by
  subst hw hu hb hx hk; rfl

/-- The first result's rows. -/
theorem first_row (ha : ∀ i, ((m (c, Proc.devRef .tc main_arg0) : S1024x200.Idx → BitVec 32) i).toNat < 100001) (r : Fin 1024) (j : Fin 256) :
    ((STEP^[200] (entryContents preI m c)) (Proc.devRef .tc main_v11_9) : S1024x256.Idx → EReal) (ix2 r j)
      = last (fun i e => (m (c, Proc.devRef .tc main_arg2) : S100001x128.Idx → EReal) (ix2 i e)) (fun e k => (m (c, Proc.devRef .tc main_arg3) : S128x1024.Idx → EReal) (ix2 e k))
          (fun e k => (m (c, Proc.devRef .tc main_arg4) : S256x1024.Idx → EReal) (ix2 e k)) (fun k => (m (c, Proc.devRef .tc main_arg5) : S1024.Idx → EReal) (ix1 k))
          (fun t => (m (c, Proc.devRef .tc main_arg0) : S1024x200.Idx → BitVec 32) (ix2 r t)) j := by
  rw [iter_first _ (ctr_entry m c) (entry_8 m c) (entry_9 m c)]
  unfold last
  refine congrArg (fun p : (Fin 256 → EReal) × (Fin 256 → EReal) => p.2 j) (row_congr ?_ ?_ ?_ ?_ ?_ 200)
  · rw [entry_4]
  · rw [entry_5]
  · rw [entry_6]
  · rw [entry_0]; funext t e; exact emb_apply _ _ ha _ _ _
  · rw [entry_1]; funext t; exact mask_apply _ _ _

/-- The second result's rows. -/
theorem second_row (ha : ∀ i, ((m (c, Proc.devRef .tc main_arg1) : S1024x200.Idx → BitVec 32) i).toNat < 100001) (r : Fin 1024) (j : Fin 256) :
    ((STEP^[200] (entryContents preI m c)) (Proc.devRef .tc main_v11_11) : S1024x256.Idx → EReal) (ix2 r j)
      = last (fun i e => (m (c, Proc.devRef .tc main_arg2) : S100001x128.Idx → EReal) (ix2 i e)) (fun e k => (m (c, Proc.devRef .tc main_arg3) : S128x1024.Idx → EReal) (ix2 e k))
          (fun e k => (m (c, Proc.devRef .tc main_arg4) : S256x1024.Idx → EReal) (ix2 e k)) (fun k => (m (c, Proc.devRef .tc main_arg5) : S1024.Idx → EReal) (ix1 k))
          (fun t => (m (c, Proc.devRef .tc main_arg1) : S1024x200.Idx → BitVec 32) (ix2 r t)) j := by
  rw [iter_second _ (ctr_entry m c) (entry_10 m c) (entry_11 m c)]
  unfold last
  refine congrArg (fun p : (Fin 256 → EReal) × (Fin 256 → EReal) => p.2 j) (row_congr ?_ ?_ ?_ ?_ ?_ 200)
  · rw [entry_4]
  · rw [entry_5]
  · rw [entry_6]
  · rw [entry_2]; funext t e; exact emb_apply _ _ ha _ _ _
  · rw [entry_3]; funext t; exact mask_apply _ _ _

end Cert.Proof.Ref

end
-- ==== Proof.Cosine.lean ====
/-
  The last cells are real numbers, and on real numbers the two ways of writing the cosine agree: the product of the rows
  scaled by one reciprocal root of both squared lengths, and the sum of the products of the entries each divided by its
  row's length.
-/
module

public import proofs.«01_k».proof.Proof.Cell

@[expose] public section

noncomputable section

namespace Cert.Proof.Cell

open Idealize.ShloMosaic

/-- A logistic value is a real number. -/
theorem logistic_real (x : EReal) : ∃ r : ℝ, Ideal.logistic x = (r : EReal) := by
  induction x with
  | bot =>
    have e : Ideal.exp ⊤ = ⊤ := rfl
    have e1 : (1 : EReal) + ⊤ = ⊤ := rfl
    exact ⟨0, by simp [Ideal.logistic, e, e1, Ideal.div]⟩
  | top =>
    have e : Ideal.exp ⊥ = 0 := rfl
    exact ⟨1, by simp [Ideal.logistic, e, Ideal.div]⟩
  | coe x =>
    refine ⟨(1 + Real.exp (-x))⁻¹, ?_⟩
    have hp : 0 < 1 + Real.exp (-x) := by positivity
    have h0 : ((1 + Real.exp (-x) : ℝ) : EReal) ≠ 0 := by
      intro h; exact hp.ne' (EReal.coe_eq_zero.mp h)
    have e : (1 : EReal) + Ideal.exp (-(x : EReal)) = ((1 + Real.exp (-x) : ℝ) : EReal) := by
      rw [← EReal.coe_neg]
      show (1 : EReal) + ((Real.exp (-x) : ℝ) : EReal) = _
      rw [EReal.coe_add, EReal.coe_one]
    unfold Ideal.logistic
    rw [e, Ideal.div, if_neg h0, one_mul, EReal.coe_inv]

/-- A hyperbolic tangent is a real number. -/
theorem tanh_real (x : EReal) : ∃ r : ℝ, Ideal.tanh x = (r : EReal) := by
  induction x with
  | bot => exact ⟨-1, by rw [show Ideal.tanh ⊥ = -1 from rfl]; rfl⟩
  | top => exact ⟨1, by rw [show Ideal.tanh ⊤ = 1 from rfl]; rfl⟩
  | coe x => exact ⟨Real.tanh x, rfl⟩

/-- A cell stays a real number. -/
theorem newC_real (g : Fin 1024 → EReal) (c : Fin 256 → EReal) (j : Fin 256) (h : ∃ r : ℝ, c j = (r : EReal)) : ∃ r : ℝ, newC g c j = (r : EReal) := by
  obtain ⟨r, hr⟩ := h
  obtain ⟨p, hp⟩ := logistic_real (g ⟨256 + j.val, by omega⟩)
  obtain ⟨q, hq⟩ := logistic_real (g ⟨j.val, by omega⟩)
  obtain ⟨s, hs⟩ := tanh_real (g ⟨512 + j.val, by omega⟩)
  refine ⟨p * r + q * s, ?_⟩
  unfold newC
  rw [hp, hq, hs, hr, EReal.coe_add, EReal.coe_mul, EReal.coe_mul]

/-- After any number of steps a row's cell is real. -/
theorem row_real (w : Fin 128 → Fin 1024 → EReal) (u : Fin 256 → Fin 1024 → EReal) (b : Fin 1024 → EReal) (x : ℕ → Fin 128 → EReal) (mk : ℕ → BitVec 1) (n : ℕ) :
    ∀ j, ∃ r : ℝ, (row w u b x mk n).2 j = (r : EReal) := by
  induction n with
  | zero => exact fun j => ⟨0, rfl⟩
  | succ n ih =>
    intro j
    unfold row
    dsimp only
    unfold Scalar.select
    split
    · exact newC_real _ _ j (ih j)
    · exact ih j

/-- The last cell is a row of real numbers. -/
theorem last_real (tb : Fin 100001 → Fin 128 → EReal) (w : Fin 128 → Fin 1024 → EReal) (u : Fin 256 → Fin 1024 → EReal) (b : Fin 1024 → EReal)
    (tk : Fin 200 → BitVec 32) : ∃ a : Fin 256 → ℝ, last tb w u b tk = fun j => (a j : EReal) := by
  have h := fun j => row_real w u b (fun t e => tb ⟨(tk ⟨t % 200, Nat.mod_lt _ (by decide)⟩).toNat % 100001, Nat.mod_lt _ (by decide)⟩ e)
    (fun t => onBit (tk ⟨t % 200, Nat.mod_lt _ (by decide)⟩)) 200 j
  exact ⟨fun j => (h j).choose, funext fun j => (h j).choose_spec⟩

theorem sum_coe {ι : Type} (s : Finset ι) (f : ι → ℝ) : (∑ i ∈ s, (f i : EReal)) = ((∑ i ∈ s, f i : ℝ) : EReal) := by
  classical
  induction s using Finset.induction_on with
  | empty => simp
  | insert i s hi ih => rw [Finset.sum_insert hi, Finset.sum_insert hi, ih, EReal.coe_add]

theorem max_coe (x y : ℝ) : max (x : EReal) (y : EReal) = ((max x y : ℝ) : EReal) :=
  (EReal.coe_strictMono.monotone.map_max).symm

/-- THE COSINE: one reciprocal root of the product of the floored squared lengths, or each entry over its row's floored length. -/
theorem cosine (a b : Fin 256 → ℝ) (ε : ℝ) (hε : 0 < ε) :
    (∑ k, (a k : EReal) * (b k : EReal)) * Ideal.rsqrt (max (∑ k, (a k : EReal) * (a k : EReal)) (ε : EReal) * max (∑ k, (b k : EReal) * (b k : EReal)) (ε : EReal))
      = ∑ k, Ideal.div (a k : EReal) (Ideal.sqrt (max (∑ k, (a k : EReal) * (a k : EReal)) (ε : EReal)))
          * Ideal.div (b k : EReal) (Ideal.sqrt (max (∑ k, (b k : EReal) * (b k : EReal)) (ε : EReal))) := by
  simp only [← EReal.coe_mul, sum_coe, max_coe]
  generalize hA : max (∑ k, a k * a k) ε = A
  generalize hB : max (∑ k, b k * b k) ε = B
  have hA0 : 0 < A := hA ▸ lt_of_lt_of_le hε (le_max_right _ _)
  have hB0 : 0 < B := hB ▸ lt_of_lt_of_le hε (le_max_right _ _)
  have hAB : 0 < A * B := mul_pos hA0 hB0
  have hs : ∀ x : ℝ, 0 < x → Ideal.sqrt (x : EReal) = ((Real.sqrt x : ℝ) : EReal) := fun x hx => by
    show (if x < 0 then (⊥ : EReal) else _) = _
    rw [if_neg (not_lt.mpr hx.le)]
  have hd : ∀ x y : ℝ, 0 < y → Ideal.div (x : EReal) (y : EReal) = ((x * y⁻¹ : ℝ) : EReal) := fun x y hy => by
    rw [Ideal.div, if_neg (fun h => hy.ne' (EReal.coe_eq_zero.mp h)), EReal.coe_mul, EReal.coe_inv]
  have hr : Ideal.rsqrt ((A * B : ℝ) : EReal) = (((Real.sqrt (A * B))⁻¹ : ℝ) : EReal) := by
    show (if A * B < 0 then (⊥ : EReal) else if A * B = 0 then ⊤ else _) = _
    rw [if_neg (not_lt.mpr hAB.le), if_neg hAB.ne']
  rw [hs A hA0, hs B hB0, hr]
  simp only [hd _ _ (Real.sqrt_pos.mpr hA0), hd _ _ (Real.sqrt_pos.mpr hB0), ← EReal.coe_mul, sum_coe]
  refine congrArg _ ?_
  rw [Real.sqrt_mul hA0.le, mul_inv, Finset.sum_mul]
  exact Finset.sum_congr rfl fun k _ => by ring

/-- The floor's printed pattern is a positive real number. -/
theorem floor_f32 : ∃ ε : ℝ, 0 < ε ∧ Ideal.ofBits .f32 0x2B8CBCCC#32 = (ε : EReal) := by
  refine ⟨_, ?_, by simp only [Ideal.ofBits, Ideal.ieee]; rfl⟩
  norm_num
  rw [if_neg (by decide)]
  positivity

end Cert.Proof.Cell

end
-- ==== Proof.Algebraic.lean ====
/-
  The kernel and the reference leave equal results on the ideal floats: the cells row by row, and the cosine of the cells.
-/
module

public import proofs.«01_k».proof.Proof.KernelRow
public import proofs.«01_k».proof.Proof.RefLast
public import proofs.«01_k».proof.Proof.Cosine

@[expose] public section

noncomputable section

/-! ## The kernel's three results, entry by entry -/

namespace Cert.Proof.Lstm

open Cert.KernelIdeal Cert.KernelIdeal.Gen Cert.Proof.Cell
open Idealize.ShloMosaic

/-- The first half of the rows. -/
theorem pay3_apply (v : FVec Ideal S2048x256 .f32) (r : Fin 1024) (j : Fin 256) :
    k1_pay3 (F := Ideal) v (ix2 r j) = v (ix2 ⟨r.val, by omega⟩ j) := by
  pointwise [k1_pay3]

/-- The second half of the rows. -/
theorem pay4_apply (v : FVec Ideal S2048x256 .f32) (r : Fin 1024) (j : Fin 256) :
    k1_pay4 (F := Ideal) v (ix2 r j) = v (ix2 ⟨1024 + r.val, by omega⟩ j) := by
  pointwise [k1_pay4]

/-- The cosine of the two halves. -/
theorem pay5_apply (v : FVec Ideal S2048x256 .f32) (r : Fin 1024) :
    (k1_pay5 (F := Ideal) v (ix2 r 0) : EReal)
      = (∑ k : Fin 256, (v (ix2 ⟨r.val, by omega⟩ k) : EReal) * v (ix2 ⟨1024 + r.val, by omega⟩ k))
        * Ideal.rsqrt (max (∑ k : Fin 256, (v (ix2 ⟨r.val, by omega⟩ k) : EReal) * v (ix2 ⟨r.val, by omega⟩ k)) (Ideal.ofBits .f32 0x2B8CBCCC#32)
          * max (∑ k : Fin 256, (v (ix2 ⟨1024 + r.val, by omega⟩ k) : EReal) * v (ix2 ⟨1024 + r.val, by omega⟩ k)) (Ideal.ofBits .f32 0x2B8CBCCC#32)) := by
  pointwise [k1_pay5, k1_pay3, k1_pay4]

end Cert.Proof.Lstm

namespace Cert.Proof.Ref

open Cert.ReferenceIdeal Cert.ReferenceIdeal.Gen Cert.ReferenceIdeal.Value Cert.Proof.Cell
open Idealize.ShloMosaic

/-- The reference's cosine of the two cells. -/
theorem out_apply (V : Valuation τ sig (Elt Ideal)) (a b : FVec Ideal S1024x256 .f32) (ha : V (Proc.devRef .tc main_v11_9) = a)
    (hb : V (Proc.devRef .tc main_v11_11) = b) (r : Fin 1024) :
    (out_main_v29 V (ix1 r) : EReal)
      = ∑ k : Fin 256, Ideal.div (a (ix2 r k) : EReal) (Ideal.sqrt (max (∑ k : Fin 256, (a (ix2 r k) : EReal) * a (ix2 r k)) (Ideal.ofBits .f32 0x2B8CBCCC#32)))
          * Ideal.div (b (ix2 r k) : EReal) (Ideal.sqrt (max (∑ k : Fin 256, (b (ix2 r k) : EReal) * b (ix2 r k)) (Ideal.ofBits .f32 0x2B8CBCCC#32))) := by
  subst ha hb
  pointwise [out_main_v29]

end Cert.Proof.Ref

/-! ## The two programs meet -/

namespace Cert.Proof.Meet

open Idealize.ShloMosaic Cert.Proof.Cell

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The last cell of row `r` of a batch of row numbers, of the kernel's arguments. -/
def cellOf (a : IVec Cert.KernelIdeal.S1024x200 32) (r : Fin 1024) : Fin 256 → EReal :=
  last (fun i e => (m (c, Proc.devRef .tc Cert.KernelIdeal.main_arg2) : Cert.KernelIdeal.S100001x128.Idx → EReal) (ix2 i e))
    (fun e k => (m (c, Proc.devRef .tc Cert.KernelIdeal.main_arg3) : Cert.KernelIdeal.S128x1024.Idx → EReal) (ix2 e k))
    (fun e k => (m (c, Proc.devRef .tc Cert.KernelIdeal.main_arg4) : Cert.KernelIdeal.S256x1024.Idx → EReal) (ix2 e k))
    (fun k => (m (c, Proc.devRef .tc Cert.KernelIdeal.main_arg5) : Cert.KernelIdeal.S1024.Idx → EReal) (ix1 k))
    (fun t => a (ix2 r t))

/-- The kernel's first batch. -/
theorem fin_first (r : Fin 1024) (j : Fin 256) :
    (Lstm.fin m c (ix2 (⟨r.val, by omega⟩ : Fin 2048) j) : EReal) = cellOf m c (m (c, Proc.devRef .tc Cert.KernelIdeal.main_arg0)) r j := by
  rw [Lstm.fin_row]
  unfold cellOf
  refine congrArg (fun tk => last _ _ _ _ tk j) (funext fun t => ?_)
  unfold Lstm.tok
  rw [dif_pos r.isLt]

/-- The kernel's second batch. -/
theorem fin_second (r : Fin 1024) (j : Fin 256) :
    (Lstm.fin m c (ix2 (⟨1024 + r.val, by omega⟩ : Fin 2048) j) : EReal) = cellOf m c (m (c, Proc.devRef .tc Cert.KernelIdeal.main_arg1)) r j := by
  rw [Lstm.fin_row]
  unfold cellOf
  refine congrArg (fun tk => last _ _ _ _ tk j) (funext fun t => ?_)
  unfold Lstm.tok
  rw [dif_neg (by show ¬ 1024 + r.val < 1024; omega)]
  refine congrArg (fun q => (m (c, Proc.devRef .tc Cert.KernelIdeal.main_arg1) : Cert.KernelIdeal.S1024x200.Idx → BitVec 32) (ix2 q t)) (Fin.ext ?_)
  show 1024 + r.val - 1024 = r.val
  omega

/-- The arguments agree. -/
def Agrees : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

variable (h : Agrees m m' c)
  (h0 : ∀ i, ((m (c, Proc.devRef .tc Cert.KernelIdeal.main_arg0) : Cert.KernelIdeal.S1024x200.Idx → BitVec 32) i).toNat < 100001)
  (h1 : ∀ i, ((m (c, Proc.devRef .tc Cert.KernelIdeal.main_arg1) : Cert.KernelIdeal.S1024x200.Idx → BitVec 32) i).toNat < 100001)

/-- The reference's last values. -/
abbrev refEnd : Valuation Cert.ReferenceIdeal.τ Cert.ReferenceIdeal.sig (Elt Ideal) :=
  Cert.ReferenceIdeal.Value.STEP^[200] (Idealize.ShloMosaic.StableHlo.entryContents Cert.ReferenceIdeal.Value.preI m' c)

include h

include h0 in
theorem ref_first (r : Fin 1024) (j : Fin 256) :
    (refEnd m' c (Proc.devRef .tc Cert.ReferenceIdeal.main_v11_9) : Cert.ReferenceIdeal.S1024x256.Idx → EReal) (ix2 r j)
      = cellOf m c (m (c, Proc.devRef .tc Cert.KernelIdeal.main_arg0)) r j := by
  obtain ⟨e0, e1, e2, e3, e4, e5⟩ := h
  refine (Ref.first_row m' c (fun i => (congrArg (fun a : Cert.KernelIdeal.S1024x200.Idx → BitVec 32 => (a i).toNat) e0).trans_lt (h0 i)) r j).trans ?_
  unfold cellOf
  congr 1
  · funext i e; exact congrFun e2 _
  · funext i e; exact congrFun e3 _
  · funext i e; exact congrFun e4 _
  · funext i; exact congrFun e5 _
  · funext t; exact congrFun e0 _

include h1 in
theorem ref_second (r : Fin 1024) (j : Fin 256) :
    (refEnd m' c (Proc.devRef .tc Cert.ReferenceIdeal.main_v11_11) : Cert.ReferenceIdeal.S1024x256.Idx → EReal) (ix2 r j)
      = cellOf m c (m (c, Proc.devRef .tc Cert.KernelIdeal.main_arg1)) r j := by
  obtain ⟨e0, e1, e2, e3, e4, e5⟩ := h
  refine (Ref.second_row m' c (fun i => (congrArg (fun a : Cert.KernelIdeal.S1024x200.Idx → BitVec 32 => (a i).toNat) e1).trans_lt (h1 i)) r j).trans ?_
  unfold cellOf
  congr 1
  · funext i e; exact congrFun e2 _
  · funext i e; exact congrFun e3 _
  · funext i e; exact congrFun e4 _
  · funext i; exact congrFun e5 _
  · funext t; exact congrFun e1 _

include h0 in
/-- The first results are equal. -/
theorem meet_first : refEnd m' c (Proc.devRef .tc Cert.ReferenceIdeal.main_v11_9) = Lstm.W5 m c (Proc.devRef .tc Cert.KernelIdeal.main_v7_0) := by
  funext y
  obtain ⟨r, j, rfl⟩ : ∃ (r : Fin 1024) (j : Fin 256), y = ix2 r j := ⟨y 0, y 1, eq_ix2 y⟩
  rw [Lstm.W5_v7_0]
  refine (ref_first m m' c h h0 _ _).trans ((fin_first m c _ _).symm.trans (Lstm.pay3_apply _ _ _).symm)

include h1 in
/-- The second results are equal. -/
theorem meet_second : refEnd m' c (Proc.devRef .tc Cert.ReferenceIdeal.main_v11_11) = Lstm.W5 m c (Proc.devRef .tc Cert.KernelIdeal.main_v7_1) := by
  funext y
  obtain ⟨r, j, rfl⟩ : ∃ (r : Fin 1024) (j : Fin 256), y = ix2 r j := ⟨y 0, y 1, eq_ix2 y⟩
  rw [Lstm.W5_v7_1]
  refine (ref_second m m' c h h1 _ _).trans ((fin_second m c _ _).symm.trans (Lstm.pay4_apply _ _ _).symm)

include h0 h1 in
/-- The cosines are equal: the cells are real numbers. -/
theorem meet_cos : Cert.ReferenceIdeal.Value.out_main_v29 (refEnd m' c) = Lstm.W5 m c (Proc.devRef .tc Cert.KernelIdeal.main_v8) := by
  funext y
  obtain ⟨r, rfl⟩ : ∃ r : Fin 1024, y = ix1 r := ⟨y 0, eq_ix1 y⟩
  rw [Lstm.W5_v8]
  refine (Ref.out_apply _ _ _ rfl rfl r).trans ?_
  have hk : (shapeCast Cert.KernelIdeal.S1024 (Cert.KernelIdeal.Gen.k1_pay5 (F := Ideal) (Lstm.fin m c)) Cert.KernelIdeal.Gen.shapeCasts_S1024x1_S1024 (ix1 r) : EReal)
      = Cert.KernelIdeal.Gen.k1_pay5 (F := Ideal) (Lstm.fin m c) (ix2 r 0) := by
    pointwise
  refine Eq.trans ?_ hk.symm
  rw [Lstm.pay5_apply]
  obtain ⟨ε, hε, eε⟩ := floor_f32
  obtain ⟨a, ea⟩ : ∃ a : Fin 256 → ℝ, cellOf m c (m (c, Proc.devRef .tc Cert.KernelIdeal.main_arg0)) r = fun j => (a j : EReal) := last_real ..
  obtain ⟨b, eb⟩ : ∃ b : Fin 256 → ℝ, cellOf m c (m (c, Proc.devRef .tc Cert.KernelIdeal.main_arg1)) r = fun j => (b j : EReal) := last_real ..
  have e1 := fun k => ref_first m m' c h h0 r k
  have e2 := fun k => ref_second m m' c h h1 r k
  have e3 := fun k => fin_first m c r k
  have e4 := fun k => fin_second m c r k
  simp only [ea, eb] at e1 e2 e3 e4
  simp only [e1, e2, e3, e4, eε]
  exact (cosine a b ε hε).symm

end Cert.Proof.Meet

namespace Cert.Proof

open Idealize.ShloMosaic Idealize.SL.Sem

/-- THE VALUES: run on equal arguments, the two programs leave equal results. -/
theorem values_meet : Cert.algebraic_KernelIdeal_ReferenceIdeal := by
  intro m g m' g' hpre hargs
  have hb := fun c => Lstm.bound_of_pre _ _ _ _ _ _ (hpre c)
  refine ⟨fun c => Lstm.W5 m c (Proc.devRef .tc Cert.KernelIdeal.main_v7_0), fun c => Lstm.W5 m c (Proc.devRef .tc Cert.KernelIdeal.main_v7_1),
    fun c => Lstm.W5 m c (Proc.devRef .tc Cert.KernelIdeal.main_v8), ?_, ?_⟩
  · refine (θ_run _ _ _).mono (fun _ hr c => ⟨hr.1 c _ rfl, hr.1 c _ rfl, hr.1 c _ rfl, ?_⟩)
      (Lstm.run_main m g (Lstm.preOK m (Lstm.inRange m fun d => hpre d)))
    exact ⟨(hr.1 c _ rfl).trans (Lstm.W5_input m c Cert.KernelIdeal.main_arg0 (by decide) (by decide)),
      (hr.1 c _ rfl).trans (Lstm.W5_input m c Cert.KernelIdeal.main_arg1 (by decide) (by decide)),
      (hr.1 c _ rfl).trans (Lstm.W5_input m c Cert.KernelIdeal.main_arg2 (by decide) (by decide)),
      (hr.1 c _ rfl).trans (Lstm.W5_input m c Cert.KernelIdeal.main_arg3 (by decide) (by decide)),
      (hr.1 c _ rfl).trans (Lstm.W5_input m c Cert.KernelIdeal.main_arg4 (by decide) (by decide)),
      (hr.1 c _ rfl).trans (Lstm.W5_input m c Cert.KernelIdeal.main_arg5 (by decide) (by decide))⟩
  · refine (θ_run _ _ _).mono (fun _ hr c => ⟨(hr c).1.trans ?_, (hr c).2.1.trans ?_, (hr c).2.2.1.trans ?_, (hr c).2.2.2⟩)
      (Cert.ReferenceIdeal.Value.run (F := Ideal) m' g')
    · exact Meet.meet_first m m' c (hargs c) (fun i => (hb c i).1)
    · exact Meet.meet_second m m' c (hargs c) (fun i => (hb c i).2)
    · exact Meet.meet_cos m m' c (hargs c) (fun i => (hb c i).1) (fun i => (hb c i).2)

end Cert.Proof

end
-- ==== Proof.lean ====
/-
  The proof of the claims: the run of the kernel at each float instance, the frames read off the runs, and the results equal to the reference's on the ideal floats.
-/
module

public import proofs.«01_k».proof.Defs
public import proofs.«01_k».proof.Proof.Gen.ReferenceIdeal.Run
public import proofs.«01_k».proof.Proof.Readback
public import proofs.«01_k».proof.Proof.Bits.Readback
public import proofs.«01_k».proof.Proof.RefFrame
public import proofs.«01_k».proof.Proof.Algebraic

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre_idx_in_vocab.Gen.facts,
    LstmBits.frame_bits, Lstm.frame_ideal, Ref.frame_ref, trivial, values_meet⟩

end Cert.Proof

end
